-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n" .f32 0x35638E39#32 ((1 / 1179648 : ℝ) : EReal)
  ∧ IdealRules.named_const.Statement Cert.KernelIdeal.κ "inv_sp" .f32 0x36E38E39#32 ((1 / 147456 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x384x384x2 : Shape := ⟨4, ![256, 384, 384, 2]⟩
abbrev S256x1x1x1 : Shape := ⟨4, ![256, 1, 1, 1]⟩
abbrev S_ : Shape := ⟨0, ![]⟩

class Facts : Prop where
  bcast_S_S256x384x384x2 : S_.BroadcastsInDim S256x384x384x2 (![] : Fin 0 → Fin S256x384x384x2.rank)
  reducesTo_S256x384x384x2_S_d0_1_2_3 : S256x384x384x2.ReducesTo [0, 1, 2, 3] S_
  h_S_ : 0 < S_.numel
  bcast_S_S256x1x1x1 : S_.BroadcastsInDim S256x1x1x1 (![] : Fin 0 → Fin S256x1x1x1.rank)
  reducesTo_S256x1x1x1_S_d0_1_2_3 : S256x1x1x1.ReducesTo [0, 1, 2, 3] S_

variable [Facts]

def fn {F : FTy → Type} [FloatOps F] (main_arg0 : FVec F S256x384x384x2 .f32) (main_arg1 : FVec F S256x1x1x1 .f32) (main_arg2 : FVec F S256x1x1x1 .f32) : IVec S_ 1 :=
  let main_v0 : FVec F S256x384x384x2 .f32 := Host.absf main_arg0
  let main_cst : FVec F S_ .f32 := constant S_ .f32 0x7F800000#32
  let main_v1 : FVec F S256x384x384x2 .f32 := broadcastInDim S256x384x384x2 ![] bcast_S_S256x384x384x2 main_cst
  let main_v2 : IVec S256x384x384x2 1 := cmpf .olt main_v0 main_v1
  let main_c : IVec S_ 1 := constantI S_ 1 1#1
  let main_v3 : IVec S_ 1 := (fun x v => Host.reduce IntOp.andi x v reducesTo_S256x384x384x2_S_d0_1_2_3 h_S_) main_v2 main_c
  let main_v4 : FVec F S256x1x1x1 .f32 := Host.absf main_arg1
  let main_cst_0 : FVec F S_ .f32 := constant S_ .f32 0x7F800000#32
  let main_v5 : FVec F S256x1x1x1 .f32 := broadcastInDim S256x1x1x1 ![] bcast_S_S256x1x1x1 main_cst_0
  let main_v6 : IVec S256x1x1x1 1 := cmpf .olt main_v4 main_v5
  let main_c_1 : IVec S_ 1 := constantI S_ 1 1#1
  let main_v7 : IVec S_ 1 := (fun x v => Host.reduce IntOp.andi x v reducesTo_S256x1x1x1_S_d0_1_2_3 h_S_) main_v6 main_c_1
  let main_v8 : IVec S_ 1 := andi main_v3 main_v7
  main_v8
-- ==== Kernel.lean ====
abbrev S256x384x384x2 : Shape := ⟨4, ![256, 384, 384, 2]⟩
abbrev S256x1x1x1 : Shape := ⟨4, ![256, 1, 1, 1]⟩
abbrev S256x384x2x384 : Shape := ⟨4, ![256, 384, 2, 384]⟩
abbrev S32x8x384x2x384 : Shape := ⟨5, ![32, 8, 384, 2, 384]⟩
abbrev S32x8x1 : Shape := ⟨3, ![32, 8, 1]⟩
abbrev S32x8x384 : Shape := ⟨3, ![32, 8, 384]⟩
abbrev S1x8x384x2x384 : Shape := ⟨5, ![1, 8, 384, 2, 384]⟩
abbrev S1x8x384 : Shape := ⟨3, ![1, 8, 384]⟩
abbrev S8x384x384 : Shape := ⟨3, ![8, 384, 384]⟩
abbrev S8x2 : Shape := ⟨2, ![8, 2]⟩
abbrev S1x1 : Shape := ⟨2, ![1, 1]⟩
abbrev S_ : Shape := ⟨0, ![]⟩
abbrev S1x384x384 : Shape := ⟨3, ![1, 384, 384]⟩
abbrev S384x384 : Shape := ⟨2, ![384, 384]⟩
abbrev S1x1x384x1x384 : Shape := ⟨5, ![1, 1, 384, 1, 384]⟩
abbrev S8x384 : Shape := ⟨2, ![8, 384]⟩
abbrev S384 : Shape := ⟨1, ![384]⟩
abbrev S1x384 : Shape := ⟨2, ![1, 384]⟩
abbrev S8 : Shape := ⟨1, ![8]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S1x1x8x1x384 : Shape := ⟨5, ![1, 1, 8, 1, 384]⟩

abbrev nBuf : Space → Nat
  | .hbm => 12
  | .vmem => 10
  | .smem => 0
  | _ => 0

abbrev bufTy : (tb : Table) → Fin (tcTables nBuf tb) → BufTy
  | .hbm, ⟨0, _⟩ => ⟨S256x384x384x2, .f32⟩
  | .hbm, ⟨1, _⟩ => ⟨S256x1x1x1, .f32⟩
  | .hbm, ⟨2, _⟩ => ⟨S256x1x1x1, .f32⟩
  | .hbm, ⟨3, _⟩ => ⟨S256x384x2x384, .f32⟩
  | .hbm, ⟨4, _⟩ => ⟨S32x8x384x2x384, .f32⟩
  | .hbm, ⟨5, _⟩ => ⟨S32x8x1, .f32⟩
  | .hbm, ⟨6, _⟩ => ⟨S32x8x384, .f32⟩
  | .hbm, ⟨7, _⟩ => ⟨S32x8x1, .f32⟩
  | .hbm, ⟨8, _⟩ => ⟨S32x8x384, .f32⟩
  | .hbm, ⟨9, _⟩ => ⟨S32x8x384x2x384, .f32⟩
  | .hbm, ⟨10, _⟩ => ⟨S256x384x2x384, .f32⟩
  | .hbm, ⟨11, _⟩ => ⟨S256x384x384x2, .f32⟩
  | .local _ .vmem, ⟨0, _⟩ => ⟨S1x8x384x2x384, .f32⟩
  | .local _ .vmem, ⟨1, _⟩ => ⟨S1x8x384x2x384, .f32⟩
  | .local _ .vmem, ⟨2, _⟩ => ⟨S1x8x384, .f32⟩
  | .local _ .vmem, ⟨3, _⟩ => ⟨S1x8x384, .f32⟩
  | .local _ .vmem, ⟨4, _⟩ => ⟨S1x8x384, .f32⟩
  | .local _ .vmem, ⟨5, _⟩ => ⟨S1x8x384, .f32⟩
  | .local _ .vmem, ⟨6, _⟩ => ⟨S1x8x384x2x384, .f32⟩
  | .local _ .vmem, ⟨7, _⟩ => ⟨S1x8x384x2x384, .f32⟩
  | .local _ .vmem, ⟨8, _⟩ => ⟨S8x384x384, .f32⟩
  | .local _ .vmem, ⟨9, _⟩ => ⟨S8x384x384, .f32⟩
  | _, _ => ⟨S256x384x384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x8x384x2x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x384x2x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_n" => some ((1 / 1179648 : ℝ) : EReal)
  | "inv_sp" => some ((1 / 147456 : ℝ) : EReal)
  | _ => none
-- ==== ReferenceIdeal.lean ====
abbrev S256x384x384x2 : Shape := ⟨4, ![256, 384, 384, 2]⟩
abbrev S256x1x1x1 : Shape := ⟨4, ![256, 1, 1, 1]⟩
abbrev S32x8x384x384x2 : Shape := ⟨5, ![32, 8, 384, 384, 2]⟩
abbrev S_ : Shape := ⟨0, ![]⟩
abbrev S32x2 : Shape := ⟨2, ![32, 2]⟩
abbrev S32x1x1x1x2 : Shape := ⟨5, ![32, 1, 1, 1, 2]⟩
abbrev S32x1179648x2 : Shape := ⟨3, ![32, 1179648, 2]⟩
abbrev S32x2x2 : Shape := ⟨3, ![32, 2, 2]⟩
abbrev S32x1x1 : Shape := ⟨3, ![32, 1, 1]⟩
abbrev S32 : Shape := ⟨1, ![32]⟩
abbrev S32x1 : Shape := ⟨2, ![32, 1]⟩
abbrev S32x1x2 : Shape := ⟨3, ![32, 1, 2]⟩
abbrev S256x2 : Shape := ⟨2, ![256, 2]⟩
abbrev S256x1x1x2 : Shape := ⟨4, ![256, 1, 1, 2]⟩

abbrev nBuf : Space → Nat
  | .hbm => 103
  | .vmem => 0
  | .smem => 0
  | _ => 0

abbrev bufTy : (tb : Table) → Fin (tcTables nBuf tb) → BufTy
  | .hbm, ⟨0, _⟩ => ⟨S256x384x384x2, .f32⟩
  | .hbm, ⟨1, _⟩ => ⟨S256x1x1x1, .f32⟩
  | .hbm, ⟨2, _⟩ => ⟨S256x1x1x1, .f32⟩
  | .hbm, ⟨3, _⟩ => ⟨S32x8x384x384x2, .f32⟩
  | .hbm, ⟨4, _⟩ => ⟨S_, .f32⟩
  | .hbm, ⟨5, _⟩ => ⟨S32x2, .f32⟩
  | .hbm, ⟨6, _⟩ => ⟨S32x1x1x1x2, .f32⟩
  | .hbm, ⟨7, _⟩ => ⟨S_, .f32⟩
  | .hbm, ⟨8, _⟩ => ⟨S32x1x1x1x2, .f32⟩
  | .hbm, ⟨9, _⟩ => ⟨S32x1x1x1x2, .f32⟩
  | .hbm, ⟨10, _⟩ => ⟨S32x8x384x384x2, .f32⟩
  | .hbm, ⟨11, _⟩ => ⟨S32x8x384x384x2, .f32⟩
  | .hbm, ⟨12, _⟩ => ⟨S32x1179648x2, .f32⟩
  | .hbm, ⟨13, _⟩ => ⟨S32x2x2, .f32⟩
  | .hbm, ⟨14, _⟩ => ⟨S_, .f32⟩
  | .hbm, ⟨15, _⟩ => ⟨S32x2x2, .f32⟩
  | .hbm, ⟨16, _⟩ => ⟨S32x2x2, .f32⟩
  | .hbm, ⟨17, _⟩ => ⟨S32x1x1, .f32⟩
  | .hbm, ⟨18, _⟩ => ⟨S32, .f32⟩
  | .hbm, ⟨19, _⟩ => ⟨S32x1x1, .f32⟩
  | .hbm, ⟨20, _⟩ => ⟨S32, .f32⟩
  | .hbm, ⟨21, _⟩ => ⟨S32x1x1, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .i1⟩
  | .hbm, ⟨38, _⟩ => ⟨S_, .f32⟩
  | .hbm, ⟨39, _⟩ => ⟨S32, .f32⟩
  | .hbm, ⟨40, _⟩ => ⟨S32, .i1⟩
  | .hbm, ⟨41, _⟩ => ⟨S_, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S32, .f32⟩
  | .hbm, ⟨65, _⟩ => ⟨S32x1, .f32⟩
  | .hbm, ⟨66, _⟩ => ⟨S32x1, .f32⟩
  | .hbm, ⟨67, _⟩ => ⟨S32x2, .f32⟩
  | .hbm, ⟨68, _⟩ => ⟨S32x1, .f32⟩
  | .hbm, ⟨69, _⟩ => ⟨S32x1, .f32⟩
  | .hbm, ⟨70, _⟩ => ⟨S32x2, .f32⟩
  | .hbm, ⟨71, _⟩ => ⟨S32, .f32⟩
  | .hbm, ⟨72, _⟩ => ⟨S32x1, .f32⟩
  | .hbm, ⟨73, _⟩ => ⟨S32x1, .f32⟩
  | .hbm, ⟨74, _⟩ => ⟨S32x2, .f32⟩
  | .hbm, ⟨75, _⟩ => ⟨S32x1x2, .f32⟩
  | .hbm, ⟨76, _⟩ => ⟨S32x1x2, .f32⟩
  | .hbm, ⟨77, _⟩ => ⟨S32x2x2, .f32⟩
  | .hbm, ⟨78, _⟩ => ⟨S_, .f32⟩
  | .hbm, ⟨79, _⟩ => ⟨S32x2, .f32⟩
  | .hbm, ⟨80, _⟩ => ⟨S32x2, .f32⟩
  | .hbm, ⟨81, _⟩ => ⟨S_, .f32⟩
  | .hbm, ⟨82, _⟩ => ⟨S32x2, .f32⟩
  | .hbm, ⟨83, _⟩ => ⟨S32x2, .f32⟩
  | .hbm, ⟨84, _⟩ => ⟨S32x2, .f32⟩
  | .hbm, ⟨85, _⟩ => ⟨S32x1x2, .f32⟩
  | .hbm, ⟨86, _⟩ => ⟨S32x2x2, .f32⟩
  | .hbm, ⟨87, _⟩ => ⟨S32x2x2, .f32⟩
  | .hbm, ⟨88, _⟩ => ⟨S32x2x2, .f32⟩
  | .hbm, ⟨89, _⟩ => ⟨S32x1179648x2, .f32⟩
  | .hbm, ⟨90, _⟩ => ⟨S256x384x384x2, .f32⟩
  | .hbm, ⟨91, _⟩ => ⟨S_, .f32⟩
  | .hbm, ⟨92, _⟩ => ⟨S256x2, .f32⟩
  | .hbm, ⟨93, _⟩ => ⟨S256x1x1x2, .f32⟩
  | .hbm, ⟨94, _⟩ => ⟨S_, .f32⟩
  | .hbm, ⟨95, _⟩ => ⟨S256x1x1x2, .f32⟩
  | .hbm, ⟨96, _⟩ => ⟨S256x1x1x2, .f32⟩
  | .hbm, ⟨97, _⟩ => ⟨S256x384x384x2, .f32⟩
  | .hbm, ⟨98, _⟩ => ⟨S256x384x384x2, .f32⟩
  | .hbm, ⟨99, _⟩ => ⟨S256x1x1x2, .f32⟩
  | .hbm, ⟨100, _⟩ => ⟨S256x1x1x2, .f32⟩
  | .hbm, ⟨101, _⟩ => ⟨S256x384x384x2, .f32⟩
  | .hbm, ⟨102, _⟩ => ⟨S256x384x384x2, .f32⟩
  | _, _ => ⟨S256x384x384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Proof.Kernel.Segments.lean ====
/-
  The printed body of the kernel is the loops of `Plan`.
-/
module

public import proofs.«01_k».proof.Proof.Kernel.Plan
public import Idealize.ShloMosaic.Lib.Tactic

@[expose] public section

set_option maxRecDepth 16384

noncomputable section

namespace Cert.Kernel.Plan

open Cert.Kernel Cert.Kernel.Gen
open Idealize.ShloMosaic Idealize.SL.Sem

variable {F : FTy → Type} [FloatOps F]
variable (i : grid0.Coords) (arg1 : Blk) (harg1 : arg1.IsWhole) (arg2 : Par) (harg2 : arg2.IsWhole) (arg3 : Par) (harg3 : arg3.IsWhole)
  (arg4 : Blk) (harg4 : arg4.IsWhole) (arg5 : Chn) (harg5 : arg5.IsWhole) (arg6 : Chn) (harg6 : arg6.IsWhole) (arg7 : DmaSems sig S8x2)

/-- The printed body is the loops. -/
theorem body_eq :
    cc0__fused_kernel (F := F) i arg1 harg1 arg2 harg2 arg3 harg3 arg4 harg4 arg5 harg5 arg6 harg6 arg7
      = plan arg1 arg2 arg3 arg4 arg5 arg6 arg7 := by
  sl_kernel_rfl

end Cert.Kernel.Plan

end
-- ==== Proof.KernelIdeal.Plan.lean ====
/-
  The body of the kernel written once as loops: the sixteen transfers, the sums channel by channel, the scalars of the
  whitening matrix, and the application of the matrix channel by channel. Everything continues into what follows.
-/
module

public import proofs.«01_k».proof.Proof.Gen.KernelIdeal

@[expose] public section

set_option maxRecDepth 16384

noncomputable section

namespace Cert.KernelIdeal.Plan

open Cert.KernelIdeal Cert.KernelIdeal.Gen
open Idealize.ShloMosaic Idealize.SL.Sem

variable {F : FTy → Type} [FloatOps F] [Named F]

/-- A program on the core that ends without a value. -/
abbrev T (F : FTy → Type) [FloatOps F] := Prog (TpuEff nD τ sig (Elt F) Λ₀ .tc) PUnit
/-- Eight rows of an image plane. -/
abbrev Row (F : FTy → Type) [FloatOps F] := FVec F S8x384 .f32
abbrev Line (F : FTy → Type) [FloatOps F] := FVec F S1x384 .f32
abbrev Col (F : FTy → Type) [FloatOps F] := FVec F S8x1 .f32
abbrev Blk := Memref sig .tc .vmem S1x8x384x2x384 .f32
abbrev Chn := Memref sig .tc .vmem S8x384x384 .f32
abbrev Par := Memref sig .tc .vmem S1x8x384 .f32

/-- The reciprocal of the number of points of a group. -/
def cN : F .f32 := Named.named κ "inv_n" 0x35638E39#32
/-- The reciprocal of the number of points of a plane. -/
def cS : F .f32 := Named.named κ "inv_sp" 0x36E38E39#32

/-! ## Bounds -/

theorem inbRow {ch o : ℕ} (hc : ch < 8) (ho : o + 8 ≤ 384) :
    ∀ a, (![ch, o, 0] : Fin 3 → Nat) a + S1x8x384.size a ≤ S8x384x384.size a := by
  intro a; fin_cases a
  · show ch + 1 ≤ 8; omega
  · show o + 8 ≤ 384; omega
  · show 0 + 384 ≤ 384; omega

theorem inbPlane {ch : ℕ} (hc : ch < 8) :
    ∀ a, (![ch, 0, 0] : Fin 3 → Nat) a + S1x384x384.size a ≤ S8x384x384.size a := by
  intro a; fin_cases a
  · show ch + 1 ≤ 8; omega
  · show 0 + 384 ≤ 384; omega
  · show 0 + 384 ≤ 384; omega

theorem inbSrc {ch d : ℕ} (hc : ch < 8) (hd : d < 2) :
    ∀ a, (![0, ch, 0, d, 0] : Fin 5 → Nat) a + S1x1x384x1x384.size a ≤ S1x8x384x2x384.size a := by
  intro a; fin_cases a
  · show 0 + 1 ≤ 1; omega
  · show ch + 1 ≤ 8; omega
  · show 0 + 384 ≤ 384; omega
  · show d + 1 ≤ 2; omega
  · show 0 + 384 ≤ 384; omega

theorem inbOut {ch o d : ℕ} (hc : ch < 8) (ho : o + 8 ≤ 384) (hd : d < 2) :
    ∀ a, (![0, ch, o, d, 0] : Fin 5 → Nat) a + S1x1x8x1x384.size a ≤ S1x8x384x2x384.size a := by
  intro a; fin_cases a
  · show 0 + 1 ≤ 1; omega
  · show ch + 1 ≤ 8; omega
  · show o + 8 ≤ 384; omega
  · show d + 1 ≤ 2; omega
  · show 0 + 384 ≤ 384; omega

theorem inbSem {ch d : ℕ} (hc : ch < 8) (hd : d < 2) :
    ∀ a, (![ch, d] : Fin 2 → Nat) a + S1x1.size a ≤ S8x2.size a := by
  intro a; fin_cases a
  · show ch + 1 ≤ 8; omega
  · show d + 1 ≤ 2; omega

theorem slicesRow {ch : ℕ} (hc : ch < 8) : S8x384.Slices ![ch, 0] S1x1 :=
  ⟨rfl, by
    intro a; fin_cases a
    · show ch + 1 ≤ 8; omega
    · show 0 + 1 ≤ 384; omega⟩

theorem slicesCol {ch : ℕ} (hc : ch < 8) : S8x1.Slices ![ch, 0] S1x1 :=
  ⟨rfl, by
    intro a; fin_cases a
    · show ch + 1 ≤ 8; omega
    · show 0 + 1 ≤ 1; omega⟩

/-! ## Places -/

/-- Eight rows of a channel's plane. -/
abbrev rowRect {ch o : ℕ} (hc : ch < 8) (ho : o + 8 ≤ 384) : Rect S8x384x384 :=
  Rect.unit (s := S8x384x384) ![ch, o, 0] S1x8x384.size (inbRow hc ho)
/-- Eight rows of one component of a channel of the result. -/
abbrev outRect {ch o d : ℕ} (hc : ch < 8) (ho : o + 8 ≤ 384) (hd : d < 2) : Rect S1x8x384x2x384 :=
  Rect.unit (s := S1x8x384x2x384) ![0, ch, o, d, 0] S1x1x8x1x384.size (inbOut hc ho hd)
/-- One component of a channel of the input. -/
abbrev srcOf (m : Blk) {ch d : ℕ} (hc : ch < 8) (hd : d < 2) : Memref sig .tc .vmem S384x384 .f32 :=
  (m.slice (Rect.unit (s := S1x8x384x2x384) ![0, ch, 0, d, 0] S1x1x384x1x384.size (inbSrc hc hd)) (fun _ => rfl)).squeeze S384x384 squeezes_S1x1x384x1x384_S384x384
/-- A channel's plane of a scratch buffer. -/
abbrev dstOf (m : Chn) {ch : ℕ} (hc : ch < 8) : Memref sig .tc .vmem S384x384 .f32 :=
  (m.slice (Rect.unit (s := S8x384x384) ![ch, 0, 0] S1x384x384.size (inbPlane hc)) (fun _ => rfl)).squeeze S384x384 squeezes_S1x384x384_S384x384
/-- A transfer's counter. -/
abbrev semOf (m : DmaSems sig S8x2) {ch d : ℕ} (hc : ch < 8) (hd : d < 2) : DmaSems sig S_ :=
  (m.slice (Rect.unit (s := S8x2) ![ch, d] S1x1.size (inbSem hc hd))).squeeze S_ squeezes_S1x1_S_

/-! ## Values -/

abbrev toRow (u : Vec F S1x8x384 .f32) : Row F := shapeCast S8x384 u shapeCasts_S1x8x384_S8x384
abbrev zeroRow : Row F := broadcast S8x384 (Scalar.ofBits .f32 0x00000000#32 : F .f32)
/-- The columns of eight rows added up. -/
abbrev lineSum (a : Row F) : Line F :=
  shapeCast S1x384 (multiReduction .add [0] S384 a 0x00000000#32 reduces_S8x384_S384 (.inl rfl) rfl) shapeCasts_S384_S1x384
/-- The rows added up, one sum a row. -/
abbrev colSum (a : Row F) : Col F :=
  shapeCast S8x1 (multiReduction .add [1] S8 a 0x00000000#32 reduces_S8x384_S8 (.inl rfl) rfl) shapeCasts_S8_S8x1
/-- All of a column added up. -/
abbrev sumCol (v : Col F) : F .f32 :=
  extractAt ![0, 0, 0] (shapeCast S1x1x1 (multiReduction .add [1, 2] S1 (shapeCast S1x8x1 v shapeCasts_S8x1_S1x8x1) 0x00000000#32 reduces_S1x8x1_S1 (.inl rfl) rfl) shapeCasts_S1_S1x1x1) inpos_S1x1x1_p0_0_0
/-- All of eight rows added up. -/
abbrev sumRow (v : Row F) : F .f32 :=
  extractAt ![0, 0, 0] (shapeCast S1x1x1 (multiReduction .add [1, 2] S1 (shapeCast S1x8x384 v shapeCasts_S8x384_S1x8x384) 0x00000000#32 reduces_S1x8x384_S1 (.inl rfl) rfl) shapeCasts_S1_S1x1x1) inpos_S1x1x1_p0_0_0
/-- Eight lines stacked. -/
abbrev stack (u0 u1 u2 u3 u4 u5 u6 u7 : Line F) : Row F :=
  concatenate S8x384 0 [⟨S1x384, u0⟩, ⟨S1x384, u1⟩, ⟨S1x384, u2⟩, ⟨S1x384, u3⟩, ⟨S1x384, u4⟩, ⟨S1x384, u5⟩, ⟨S1x384, u6⟩, ⟨S1x384, u7⟩] concatenates_S1x384_S1x384_S1x384_S1x384_S1x384_S1x384_S1x384_S1x384_S8x384_d0
/-- A row's first entry. -/
abbrev atRow (v : Row F) {ch : ℕ} (hc : ch < 8) : F .f32 :=
  extractAt ![0, 0] (extractStridedSlice S1x1 ![ch, 0] v (slicesRow hc)) inpos_S1x1_p0_0
abbrev atCol (v : Col F) {ch : ℕ} (hc : ch < 8) : F .f32 :=
  extractAt ![0, 0] (extractStridedSlice S1x1 ![ch, 0] v (slicesCol hc)) inpos_S1x1_p0_0

/-- The scalars of the whitening matrix, from the five totals. -/
abbrev mean (s : F .f32) : F .f32 := Scalar.mulf s cN
abbrev varOf (q m : F .f32) : F .f32 :=
  Scalar.addf (Scalar.subf (Scalar.mulf q cN) (Scalar.mulf m m)) (Scalar.ofBits .f32 0x3727C5AC#32)
abbrev covOf (q m n : F .f32) : F .f32 := Scalar.subf (Scalar.mulf q cN) (Scalar.mulf m n)
abbrev rootDet (a b c : F .f32) : F .f32 :=
  Scalar.sqrt (Scalar.maximumf (Scalar.subf (Scalar.mulf a c) (Scalar.mulf b b)) (Scalar.ofBits .f32 0x0DA24260#32))
abbrev scaleOf (a c s : F .f32) : F .f32 :=
  Scalar.divf (Scalar.rsqrt (Scalar.addf (Scalar.addf a c) (Scalar.mulf (Scalar.ofBits .f32 0x40000000#32) s))) s
abbrev diagOf (x s i : F .f32) : F .f32 := Scalar.mulf (Scalar.addf x s) i
abbrev offOf (b i : F .f32) : F .f32 := Scalar.mulf (Scalar.subf (Scalar.ofBits .f32 0x00000000#32) b) i
/-- The constant term of a channel's result. -/
abbrev shiftOf (bi mv p m q n : F .f32) : F .f32 :=
  Scalar.subf (Scalar.subf (Scalar.mulf bi (Scalar.mulf mv cS)) (Scalar.mulf p m)) (Scalar.mulf q n)
/-- Eight rows of one component of the result. -/
abbrev outRow (p q z : F .f32) (x y : Row F) : Row F :=
  addf (addf (mulf (broadcast S8x384 p) x) (mulf (broadcast S8x384 q) y)) (broadcast S8x384 z)

/-! ## The loops -/

section
variable (arg1 : Blk) (arg2 arg3 : Par) (arg4 : Blk) (arg5 arg6 : Chn) (arg7 : DmaSems sig S8x2)

/-- The transfers of a channel's two components start. -/
def start {ch : ℕ} (hc : ch < 8) (K : T F) : T F :=
  .op (.enqueueDma (srcOf arg1 hc Nat.zero_lt_two) (.here (dstOf arg5 hc)) (.dma (semOf arg7 hc Nat.zero_lt_two).sem)
    ((View.wordExact_bits rfl).reshape _ _) ((View.wordExact_bits rfl).reshape _ _) ⟨Or.inl rfl, trivial⟩) fun _ =>
  .op (.enqueueDma (srcOf arg1 hc Nat.one_lt_two) (.here (dstOf arg6 hc)) (.dma (semOf arg7 hc Nat.one_lt_two).sem)
    ((View.wordExact_bits rfl).reshape _ _) ((View.wordExact_bits rfl).reshape _ _) ⟨Or.inl rfl, trivial⟩) fun _ => K

/-- The transfers of a channel's two components are waited for. -/
def await {ch : ℕ} (hc : ch < 8) (K : T F) : T F :=
  .op (.waitDma2 (semOf arg7 hc Nat.zero_lt_two).sem (srcOf arg1 hc Nat.zero_lt_two) (dstOf arg5 hc)
    ((View.wordExact_bits rfl).reshape _ _) ((View.wordExact_bits rfl).reshape _ _)) fun _ =>
  .op (.waitDma2 (semOf arg7 hc Nat.one_lt_two).sem (srcOf arg1 hc Nat.one_lt_two) (dstOf arg6 hc)
    ((View.wordExact_bits rfl).reshape _ _) ((View.wordExact_bits rfl).reshape _ _)) fun _ => K

/-- Eight rows of a scratch plane are loaded. -/
def get (m : Chn) {ch o : ℕ} (hc : ch < 8) (ho : o + 8 ≤ 384) (K : Vec F S1x8x384 .f32 → T F) : T F :=
  .op (.load m (rowRect hc ho).toLoadRect (View.loadsAt_vmem h_S1x8x384)) K

/-- The five running sums of a channel over `n` steps of eight rows from row `o` on. -/
def sums {ch : ℕ} (hc : ch < 8) : (n o : ℕ) → (h : o + 8 * n ≤ 384) → (a b q r p : Row F) →
    (Row F → Row F → Row F → Row F → Row F → T F) → T F
  | 0, _, _, a, b, q, r, p, K => K a b q r p
  | n + 1, o, h, a, b, q, r, p, K =>
    get arg5 hc (o := o) (by omega) fun u =>
    get arg6 hc (o := o) (by omega) fun v =>
    sums hc n (o + 8) (by omega) (addf a (toRow u)) (addf b (toRow v)) (addf q (mulf (toRow u) (toRow u)))
      (addf r (mulf (toRow v) (toRow v))) (addf p (mulf (toRow u) (toRow v))) K

/-- One channel's part of the sums: the totals so far, and the channel's two lines of sums. -/
def chan {ch : ℕ} (hc : ch < 8) (qa qb qp : Row F) (K : Row F → Row F → Row F → Line F → Line F → T F) : T F :=
  await arg1 arg5 arg6 arg7 hc <|
  sums arg5 arg6 hc 48 0 (by omega) zeroRow zeroRow zeroRow zeroRow zeroRow fun a b q r p =>
  K (addf qa q) (addf qb r) (addf qp p) (lineSum a) (lineSum b)

/-- Eight rows of one component of a channel's result are stored, over what is loaded and dropped. -/
def put {ch o d : ℕ} (hc : ch < 8) (ho : o + 8 ≤ 384) (hd : d < 2) (x : Row F) (K : T F) : T F :=
  .op (.load arg4 (outRect hc ho hd).toLoadRect (View.loadsAt_vmem h_S1x1x8x1x384)) fun _ =>
  .op (.store arg4 (outRect hc ho hd) (shapeCast S1x1x8x1x384 x shapeCasts_S8x384_S1x1x8x1x384) Finset.univ
    (View.stores_vmem_bits_univ h_S1x1x8x1x384 rfl) (.inl rfl)) fun _ => K

/-- `n` steps of eight rows of a channel's result from row `o` on. -/
def apply {ch : ℕ} (hc : ch < 8) (p00 p01 p11 z0 z1 : F .f32) : (n o : ℕ) → (h : o + 8 * n ≤ 384) → T F → T F
  | 0, _, _, K => K
  | n + 1, o, h, K =>
    get arg5 hc (o := o) (by omega) fun u =>
    get arg6 hc (o := o) (by omega) fun v =>
    put arg4 hc (o := o) (by omega) Nat.zero_lt_two (outRow p00 p01 z0 (toRow u) (toRow v)) <|
    put arg4 hc (o := o) (by omega) Nat.one_lt_two (outRow p01 p11 z1 (toRow u) (toRow v)) <|
    apply hc p00 p01 p11 z0 z1 n (o + 8) (by omega) K

/-- A channel's result, `n` steps of it from row `o` on, from the scalars of the group. -/
def chanOut {ch : ℕ} (hc : ch < 8) (c0 c1 : Col F) (m0 m1 w00 w11 w01 : F .f32) (sp bp : Row F)
    (n o : ℕ) (h : o + 8 * n ≤ 384) (K : T F) : T F :=
  apply arg4 arg5 arg6 hc (Scalar.mulf (atRow sp hc) w00) (Scalar.mulf (atRow sp hc) w01) (Scalar.mulf (atRow sp hc) w11)
    (shiftOf (atRow bp hc) (atCol c0 hc) (Scalar.mulf (atRow sp hc) w00) m0 (Scalar.mulf (atRow sp hc) w01) m1)
    (shiftOf (atRow bp hc) (atCol c1 hc) (Scalar.mulf (atRow sp hc) w01) m0 (Scalar.mulf (atRow sp hc) w11) m1)
    n o h K

/-- The scalars of the group, from the totals. -/
def scalars (c0 c1 : Col F) (qa qb qp : Row F) (K : F .f32 → F .f32 → F .f32 → F .f32 → F .f32 → Row F → Row F → T F) : T F :=
  let m0 := mean (sumCol c0)
  let m1 := mean (sumCol c1)
  let a := varOf (sumRow qa) m0
  let c := varOf (sumRow qb) m1
  let b := covOf (sumRow qp) m0 m1
  let s := rootDet a b c
  let i := scaleOf a c s
  .op (.load arg2 (Rect.unit (s := S1x8x384) ![0, 0, 0] S1x8x384.size inb_S1x8x384_S1x8x384_0_0_0).toLoadRect (View.loadsAt_vmem h_S1x8x384)) fun u =>
  .op (.load arg3 (Rect.unit (s := S1x8x384) ![0, 0, 0] S1x8x384.size inb_S1x8x384_S1x8x384_0_0_0).toLoadRect (View.loadsAt_vmem h_S1x8x384)) fun v =>
  K m0 m1 (diagOf c s i) (diagOf a s i) (offOf b i) (toRow u) (toRow v)

theorem l0 : 0 < 8 := by decide
theorem l1 : 1 < 8 := by decide
theorem l2 : 2 < 8 := by decide
theorem l3 : 3 < 8 := by decide
theorem l4 : 4 < 8 := by decide
theorem l5 : 5 < 8 := by decide
theorem l6 : 6 < 8 := by decide
theorem l7 : 7 < 8 := by decide

/-- The result, all channels, from the scalars of the group. -/
def outs (c0 c1 : Col F) (m0 m1 w00 w11 w01 : F .f32) (sp bp : Row F) (K : T F) : T F :=
  chanOut arg4 arg5 arg6 l0 c0 c1 m0 m1 w00 w11 w01 sp bp 48 0 (by decide) <|
  chanOut arg4 arg5 arg6 l1 c0 c1 m0 m1 w00 w11 w01 sp bp 48 0 (by decide) <|
  chanOut arg4 arg5 arg6 l2 c0 c1 m0 m1 w00 w11 w01 sp bp 48 0 (by decide) <|
  chanOut arg4 arg5 arg6 l3 c0 c1 m0 m1 w00 w11 w01 sp bp 48 0 (by decide) <|
  chanOut arg4 arg5 arg6 l4 c0 c1 m0 m1 w00 w11 w01 sp bp 48 0 (by decide) <|
  chanOut arg4 arg5 arg6 l5 c0 c1 m0 m1 w00 w11 w01 sp bp 48 0 (by decide) <|
  chanOut arg4 arg5 arg6 l6 c0 c1 m0 m1 w00 w11 w01 sp bp 48 0 (by decide) <|
  chanOut arg4 arg5 arg6 l7 c0 c1 m0 m1 w00 w11 w01 sp bp 48 0 (by decide) K

/-- The whole body. -/
def plan : T F :=
  start arg1 arg5 arg6 arg7 l0 <| start arg1 arg5 arg6 arg7 l1 <| start arg1 arg5 arg6 arg7 l2 <|
  start arg1 arg5 arg6 arg7 l3 <| start arg1 arg5 arg6 arg7 l4 <| start arg1 arg5 arg6 arg7 l5 <|
  start arg1 arg5 arg6 arg7 l6 <| start arg1 arg5 arg6 arg7 l7 <|
  chan arg1 arg5 arg6 arg7 l0 zeroRow zeroRow zeroRow fun qa qb qp u0 v0 =>
  chan arg1 arg5 arg6 arg7 l1 qa qb qp fun qa qb qp u1 v1 =>
  chan arg1 arg5 arg6 arg7 l2 qa qb qp fun qa qb qp u2 v2 =>
  chan arg1 arg5 arg6 arg7 l3 qa qb qp fun qa qb qp u3 v3 =>
  chan arg1 arg5 arg6 arg7 l4 qa qb qp fun qa qb qp u4 v4 =>
  chan arg1 arg5 arg6 arg7 l5 qa qb qp fun qa qb qp u5 v5 =>
  chan arg1 arg5 arg6 arg7 l6 qa qb qp fun qa qb qp u6 v6 =>
  chan arg1 arg5 arg6 arg7 l7 qa qb qp fun qa qb qp u7 v7 =>
  scalars arg2 arg3 (colSum (stack u0 u1 u2 u3 u4 u5 u6 u7)) (colSum (stack v0 v1 v2 v3 v4 v5 v6 v7)) qa qb qp
    fun m0 m1 w00 w11 w01 sp bp =>
  outs arg4 arg5 arg6 (colSum (stack u0 u1 u2 u3 u4 u5 u6 u7)) (colSum (stack v0 v1 v2 v3 v4 v5 v6 v7)) m0 m1 w00 w11 w01 sp bp <|
  .ret ⟨⟩

end

end Cert.KernelIdeal.Plan

end
-- ==== Proof.KernelIdeal.Moves.lean ====
/-
  The body's single steps, said of memrefs held at known contents: a transfer issued and waited for, eight rows loaded,
  eight rows stored, and a buffer held as a disjoint family of its parts.
-/
module

public import proofs.«01_k».proof.Proof.KernelIdeal.Plan
public import Idealize.ShloMosaic.Lib.Pipeline.FrameBody
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Moves

open Cert.KernelIdeal Cert.KernelIdeal.Gen Cert.KernelIdeal.Plan
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The program runs to the continuation's assertion. -/
abbrev run (c : Dev nD) (p : T F) (Q : PUnit.{1} → sProp 𝕄) : sProp 𝕄 :=
  wp frame (wpE (defs₀ (F := F)) Variants.none c none) Set.univ p Q

/-- The counters the transfers in flight are kept in. -/
abbrev cells : UEmb Counters 𝕄 := countersEmb (U := Pipeline.UD sig nD τ)

variable (c : Dev nD) {s s' : Shape}

/-- A memref held at contents is its squeeze held at the contents read along the squeeze. -/
theorem owns_squeeze (m : Memref sig .tc .vmem s .f32) (h : s.Squeezes s') (q : PosShare TreeShare) (X : s.Idx → Elt F .f32) :
    (owns (c : Thread nD τ) (m.squeeze s' h) q (fun j => X (Shape.reshapeEquiv h.numel_eq j)) : sProp 𝕄)
      = owns (c : Thread nD τ) m q X := by
  unfold owns
  have hr (f : m.view.ty.Contents (Elt F)) : (m.squeeze s' h).view.read (Elt F) f
      = fun j => m.view.read (Elt F) f (Shape.reshapeEquiv h.numel_eq j) := rfl
  have hs : (m.squeeze s' h).view.set = m.view.set := View.set_reshape (v := m.view) h.numel_eq
  rw [hs]
  have he (f : m.view.ty.Contents (Elt F)) :
      ((m.squeeze s' h).view.read (Elt F) f = fun j => X (Shape.reshapeEquiv h.numel_eq j)) ↔ m.view.read (Elt F) f = X := by
    rw [hr]
    constructor
    · intro e
      funext i
      have := congrFun e ((Shape.reshapeEquiv h.numel_eq).symm i)
      simpa using this
    · intro e; rw [e]
  have he' : (fun f : m.view.ty.Contents (Elt F) =>
      iprop(⌜(m.squeeze s' h).view.read (Elt F) f = fun j => X (Shape.reshapeEquiv h.numel_eq j)⌝
        ∗ (m.view.loc (c : Thread nD τ) ↦[m.view.set]{q} f) : sProp 𝕄))
      = fun f => iprop(⌜m.view.read (Elt F) f = X⌝ ∗ (m.view.loc (c : Thread nD τ) ↦[m.view.set]{q} f)) := by
    funext f; rw [propext (he f)]
  exact congrArg (fun P => BIBase.exists P) he'

/-- A transfer issued: its two ends and its counter at zero become the transfer in flight, which brings the
    destination at the source's contents. -/
theorem issue {Q : PUnit.{1} → sProp 𝕄} {src dst : Memref sig .tc .vmem s .f32} {sm : DmaSem sig} {hsrc : src.view.WordExact} {hdst : dst.view.WordExact}
    {hsem : DmaTarget.Typed (nD := nD) (p := Proc.tc) .vmem (SemLoc.dma sm) (.here dst)} {k : PUnit.{1} → T F} (h0 : 0 < dst.view.dmaCredit)
    (X Y : s.Idx → Elt F .f32) :
    iprop(owns (c : Thread nD τ) src fullShare X ∗ owns (c : Thread nD τ) dst fullShare Y ∗ semVal ((c : Thread nD τ), SemLoc.dma sm) 0)
      ⊢ iprop((Transfers.Flight (cells (F := F)) (c : Thread nD τ) (SemLoc.dma sm) () dst.view.dmaCredit
              iprop(owns (c : Thread nD τ) dst fullShare X ∗ owns (c : Thread nD τ) src fullShare X) -∗ run c (k ⟨⟩) Q)
          -∗ run c (.op (.enqueueDma src (.here dst) (SemLoc.dma sm) hsrc hdst hsem) k) Q) := by
  have hm (fs : src.view.ty.Contents (Elt F)) (fd : dst.view.ty.Contents (Elt F)) (hfs : src.view.read (Elt F) fs = X) :
      iprop((dst.view.loc (c : Thread nD τ) ↦[dst.view.set]{fullShare} dst.view.write (Elt F) fd (ReadAs.same.apply (src.view.read (Elt F) fs)) Finset.univ)
        ∗ (src.view.loc (c : Thread nD τ) ↦[src.view.set]{fullShare} fs))
      ⊢ (iprop(owns (c : Thread nD τ) dst fullShare X ∗ owns (c : Thread nD τ) src fullShare X) : sProp 𝕄) := by
    iintro ⟨Hd, Hs⟩
    isplitl [Hd]
    · unfold owns; iexists (dst.view.write (Elt F) fd (ReadAs.same.apply (src.view.read (Elt F) fs)) Finset.univ); isplitr
      · ipureintro; exact (View.read_write_univ _ _).trans hfs
      · iexact Hd
    · unfold owns; iexists fs; isplitr
      · ipureintro; exact hfs
      · iexact Hs
  iintro ⟨Hs, Hd, Hv⟩ Hk
  unfold owns
  icases Hs with ⟨%fs, %hfs, Hs⟩
  icases Hd with ⟨%fd, %hfd, Hd⟩
  iapply (Transfers.wp_dmaLocal (cells (F := F)) Variants.none (c : Thread nD τ) none () dst.view.dmaCredit rfl h0 (Finset.Subset.refl _)) $$ [Hs Hd Hv]
  · isplitl [Hs]; · iexact Hs
    isplitl [Hd]; · iexact Hd
    iexact Hv
  iintro Hf
  iapply Hk
  iapply (Transfers.Flight_mono (cells (F := F)) (c : Thread nD τ) (hm fs fd hfs)) $$ Hf

/-- A transfer waited for: what it brings, its counter back at zero. -/
theorem wait {Q : PUnit.{1} → sProp 𝕄} {src dst : Memref sig .tc .vmem s .f32} {sm : DmaSem sig} {hsrc : src.view.WordExact} {hdst : dst.view.WordExact}
    {k : PUnit.{1} → T F} {D : sProp 𝕄} :
    iprop(Transfers.Flight (cells (F := F)) (c : Thread nD τ) (SemLoc.dma sm) () dst.view.dmaCredit D ∗ (∃ W, owes (c : Thread nD τ) 0 W))
      ⊢ iprop((iprop(D ∗ semVal ((c : Thread nD τ), SemLoc.dma sm) 0 ∗ (∃ W, owes (c : Thread nD τ) 0 W)) -∗ run c (k ⟨⟩) Q)
          -∗ run c (.op (.waitDma2 sm src dst hsrc hdst) k) Q) := by
  iintro ⟨Hf, ⟨%W, HW⟩⟩ Hk
  iapply (Transfers.wp_waitLocal (cells (F := F)) Variants.none (c : Thread nD τ) none () rfl) $$ [Hf HW]
  · isplitl [Hf]; · iexact Hf
    iexact HW
  iintro ⟨HD, Hv, HW⟩
  iapply Hk
  isplitl [HD]; · iexact HD
  isplitl [Hv]; · iexact Hv
  iexists _; iexact HW

/-- A part of a memref is loaded while a larger part is held: the loaded values are the held contents there. -/
theorem load {Q : PUnit.{1} → sProp 𝕄} (m : Memref sig .tc .vmem s .f32) {r R : Rect s} (hR : ∀ a, R.stride a = 1) (hsub : r.set ⊆ R.set)
    (V : s.Idx → Elt F .f32) {hl : m.view.LoadsAt r.toLoadRect} {k : (r.shape.Idx → Elt F .f32) → T F} :
    owns (c : Thread nD τ) (m.slice R hR) fullShare (fun j => V (R.emb j))
      ⊢ iprop((owns (c : Thread nD τ) (m.slice R hR) fullShare (fun j => V (R.emb j)) -∗ run c (k (fun j => V (r.emb j))) Q)
          -∗ run c (.op (.load m r.toLoadRect hl) k) Q) := by
  iintro Ho Hk
  unfold owns
  icases Ho with ⟨%f, %hf, Ho⟩
  have hS : (m.access r).set ⊆ (m.slice R hR).view.set := by
    show (m.view.slice r).set ⊆ (m.view.slice R).set
    rw [View.set_slice, View.set_slice]
    exact Finset.map_subset_map.mpr hsub
  have hv : (m.access r).read (Elt F) f = fun j => V (r.emb j) := by
    funext j
    obtain ⟨i, hi⟩ := R.exists_idx_of_mem (hsub (r.map_emb_univ ▸ Finset.mem_map_of_mem _ (Finset.mem_univ j)))
    have h := congrFun hf i
    show m.view.read (Elt F) f (r.emb j) = V (r.emb j)
    rw [← hi]
    exact h
  iapply (wp_load_rect Variants.none (c : Thread nD τ) none Set.univ hS) $$ [Ho]
  · iexact Ho
  iintro Ho
  rw [hv]
  iapply Hk
  iexists f
  isplitr
  · ipureintro; exact hf
  · iexact Ho

/-- A part of a memref held whole is loaded. -/
theorem loadWhole {Q : PUnit.{1} → sProp 𝕄} (m : Memref sig .tc .vmem s .f32) {r : Rect s} (V : s.Idx → Elt F .f32) {hl : m.view.LoadsAt r.toLoadRect}
    {k : (r.shape.Idx → Elt F .f32) → T F} :
    owns (c : Thread nD τ) m fullShare V
      ⊢ iprop((owns (c : Thread nD τ) m fullShare V -∗ run c (k (fun j => V (r.emb j))) Q)
          -∗ run c (.op (.load m r.toLoadRect hl) k) Q) := by
  iintro Ho Hk
  unfold owns
  icases Ho with ⟨%f, %hf, Ho⟩
  have hv : (m.access r).read (Elt F) f = fun j => V (r.emb j) := by
    funext j; exact congrFun hf (r.emb j)
  iapply (wp_load_rect Variants.none (c : Thread nD τ) none Set.univ (m.view.set_slice_subset r)) $$ [Ho]
  · iexact Ho
  iintro Ho
  rw [hv]
  iapply Hk
  iexists f
  isplitr
  · ipureintro; exact hf
  · iexact Ho

/-- A part of a memref held whole is stored. -/
theorem store {Q : PUnit.{1} → sProp 𝕄} (m : Memref sig .tc .vmem s .f32) {r : Rect s} (V : s.Idx → Elt F .f32) {w : r.shape.Idx → Elt F .f32}
    {hx : (m.access r).Stores Finset.univ} {hm : Finset.univ = Finset.univ ∨ ∀ a, r.stride a = 1} {k : PUnit.{1} → T F} :
    owns (c : Thread nD τ) m fullShare V
      ⊢ iprop((owns (c : Thread nD τ) m fullShare (r.overlay V w) -∗ run c (k ⟨⟩) Q)
          -∗ run c (.op (.store m r w Finset.univ hx hm) k) Q) := by
  iintro Ho Hk
  unfold owns
  icases Ho with ⟨%f, %hf, Ho⟩
  have hv : m.view.read (Elt F) ((m.access r).write (Elt F) f w Finset.univ) = r.overlay V w := by
    funext y
    by_cases hy : y ∈ r.set
    · obtain ⟨i, rfl⟩ := r.exists_idx_of_mem hy
      show m.view.read (Elt F) ((m.view.slice r).write (Elt F) f w Finset.univ) (r.emb i) = r.overlay V w (r.emb i)
      rw [Rect.overlay_emb, View.read_slice_write_emb r f w (Finset.mem_univ i)]
    · show m.view.read (Elt F) ((m.view.slice r).write (Elt F) f w Finset.univ) y = r.overlay V w y
      rw [Rect.overlay_of_not_mem _ _ _ hy, View.read_slice_write_of_not_mem r f w Finset.univ (by rw [Rect.map_emb_univ]; exact hy), hf]
  iapply (wp_store Variants.none (c : Thread nD τ) none Set.univ (S := m.view.set) (m.view.set_slice_subset r)) $$ [Ho]
  · iexact Ho
  iintro Ho
  iapply Hk
  iexists ((m.access r).write (Elt F) f w Finset.univ)
  isplitr
  · ipureintro; exact hv
  · iexact Ho

end Cert.KernelIdeal.Moves

end
-- ==== Proof.KernelIdeal.Values.lean ====
/-
  What one run of the body computes of its blocks: the running sums, the scalars, and the block of the result entry by
  entry. Also how the parts of the blocks are indexed.
-/
module

public import proofs.«01_k».proof.Proof.KernelIdeal.Plan
public import Idealize.ShloMosaic.Lib.Pipeline.Value
public import Idealize.ShloMosaic.Lib.ValueIdxCore

@[expose] public section

set_option maxRecDepth 16384

noncomputable section

namespace Cert.KernelIdeal.Values

open Cert.KernelIdeal Cert.KernelIdeal.Gen Cert.KernelIdeal.Plan
open Idealize.ShloMosaic Idealize.ShloMosaic.ValueIdx

variable {F : FTy → Type} [FloatOps F] [Named F]

/-- A block of the input or of the result. -/
abbrev BlkV (F : FTy → Type) [FloatOps F] := S1x8x384x2x384.Idx → Elt F .f32
/-- The planes of the channels of one component. -/
abbrev ChnV (F : FTy → Type) [FloatOps F] := S8x384x384.Idx → Elt F .f32
abbrev ParV (F : FTy → Type) [FloatOps F] := S1x8x384.Idx → Elt F .f32

/-! ## Places -/

abbrev srcRect {ch d : ℕ} (hc : ch < 8) (hd : d < 2) : Rect S1x8x384x2x384 :=
  Rect.unit (s := S1x8x384x2x384) ![0, ch, 0, d, 0] S1x1x384x1x384.size (inbSrc hc hd)
abbrev planeRect {ch : ℕ} (hc : ch < 8) : Rect S8x384x384 :=
  Rect.unit (s := S8x384x384) ![ch, 0, 0] S1x384x384.size (inbPlane hc)

/-- One component of a block, as planes of channels. -/
def plane (X : BlkV F) (d : Fin 2) : ChnV F := fun i => X (ix5 (0 : Fin 1) (i 0) (i 1) d (i 2))

theorem srcRect_emb {ch d : ℕ} (hc : ch < 8) (hd : d < 2) (j : S1x1x384x1x384.Idx) :
    (srcRect hc hd).emb j = ix5 (0 : Fin 1) (⟨ch, hc⟩ : Fin 8) (j 2) (⟨d, hd⟩ : Fin 2) (j 4) := by
  funext a
  refine Fin.ext ?_
  rw [Rect.emb_apply]
  fin_cases a
  · have h := (j 0).isLt; change (j 0).val < 1 at h; show 0 + 1 * (j 0).val = 0; omega
  · have h := (j 1).isLt; change (j 1).val < 1 at h; show ch + 1 * (j 1).val = ch; omega
  · show 0 + 1 * (j 2).val = (j 2).val; omega
  · have h := (j 3).isLt; change (j 3).val < 1 at h; show d + 1 * (j 3).val = d; omega
  · show 0 + 1 * (j 4).val = (j 4).val; omega

theorem planeRect_emb {ch : ℕ} (hc : ch < 8) (j : S1x384x384.Idx) :
    (planeRect hc).emb j = ix3 (⟨ch, hc⟩ : Fin 8) (j 1) (j 2) := by
  funext a
  refine Fin.ext ?_
  rw [Rect.emb_apply]
  fin_cases a
  · have h := (j 0).isLt; change (j 0).val < 1 at h; show ch + 1 * (j 0).val = ch; omega
  · show 0 + 1 * (j 1).val = (j 1).val; omega
  · show 0 + 1 * (j 2).val = (j 2).val; omega

theorem rowRect_emb {ch o : ℕ} (hc : ch < 8) (ho : o + 8 ≤ 384) (j : S1x8x384.Idx) :
    (rowRect hc ho).emb j = ix3 (⟨ch, hc⟩ : Fin 8) (⟨o + (j 1).val, by have h := (j 1).isLt; change (j 1).val < 8 at h; omega⟩ : Fin 384) (j 2) := by
  funext a
  refine Fin.ext ?_
  rw [Rect.emb_apply]
  fin_cases a
  · have h := (j 0).isLt; change (j 0).val < 1 at h; show ch + 1 * (j 0).val = ch; omega
  · show o + 1 * (j 1).val = o + (j 1).val; omega
  · show 0 + 1 * (j 2).val = (j 2).val; omega

theorem outRect_emb {ch o d : ℕ} (hc : ch < 8) (ho : o + 8 ≤ 384) (hd : d < 2) (j : S1x1x8x1x384.Idx) :
    (outRect hc ho hd).emb j = ix5 (0 : Fin 1) (⟨ch, hc⟩ : Fin 8)
      (⟨o + (j 2).val, by have h := (j 2).isLt; change (j 2).val < 8 at h; omega⟩ : Fin 384) (⟨d, hd⟩ : Fin 2) (j 4) := by
  funext a
  refine Fin.ext ?_
  rw [Rect.emb_apply]
  fin_cases a
  · have h := (j 0).isLt; change (j 0).val < 1 at h; show 0 + 1 * (j 0).val = 0; omega
  · have h := (j 1).isLt; change (j 1).val < 1 at h; show ch + 1 * (j 1).val = ch; omega
  · show o + 1 * (j 2).val = o + (j 2).val; omega
  · have h := (j 3).isLt; change (j 3).val < 1 at h; show d + 1 * (j 3).val = d; omega
  · show 0 + 1 * (j 4).val = (j 4).val; omega

/-- What a transfer reads of a channel's component is what it leaves in the channel's plane. -/
theorem landed_eq (X : BlkV F) {ch d : ℕ} (hc : ch < 8) (hd : d < 2) (j : S384x384.Idx) :
    X ((srcRect hc hd).emb (Shape.reshapeEquiv squeezes_S1x1x384x1x384_S384x384.numel_eq j))
      = plane X ⟨d, hd⟩ ((planeRect hc).emb (Shape.reshapeEquiv squeezes_S1x384x384_S384x384.numel_eq j)) := by
  have h1 : Shape.reshapeEquiv squeezes_S1x1x384x1x384_S384x384.numel_eq j
      = (ix5 (0 : Fin 1) (0 : Fin 1) (j 0) (0 : Fin 1) (j 1) : S1x1x384x1x384.Idx) := by
    refine Shape.reshapeEquiv_eq_of_rowMajor _ ?_
    rw [Shape.rowMajor_val_five, Shape.rowMajor_val_two]
    show (((0 * 1 + 0) * 384 + (j 0).val) * 1 + 0) * 384 + (j 1).val = (j 0).val * 384 + (j 1).val
    omega
  have h2 : Shape.reshapeEquiv squeezes_S1x384x384_S384x384.numel_eq j
      = (ix3 (0 : Fin 1) (j 0) (j 1) : S1x384x384.Idx) := by
    refine Shape.reshapeEquiv_eq_of_rowMajor _ ?_
    rw [Shape.rowMajor_val_three, Shape.rowMajor_val_two]
    show (0 * 384 + (j 0).val) * 384 + (j 1).val = (j 0).val * 384 + (j 1).val
    omega
  rw [h1, h2, srcRect_emb, planeRect_emb]
  rfl

/-! ## Sums -/

/-- Eight rows of a channel's plane. -/
def rows (V : ChnV F) {ch : ℕ} (hc : ch < 8) (o : ℕ) (ho : o + 8 ≤ 384) : Row F :=
  toRow (fun j => V ((rowRect hc ho).emb j))

/-- `n` steps of a running sum from row `o` on. -/
def acc (g : (o : ℕ) → o + 8 ≤ 384 → Row F) : (n o : ℕ) → (h : o + 8 * n ≤ 384) → Row F → Row F
  | 0, _, _, a => a
  | n + 1, o, h, a => acc g n (o + 8) (by omega) (addf a (g o (by omega)))

/-- A channel's sum of rows, and its sum of products of rows. -/
def tot (V : ChnV F) {ch : ℕ} (hc : ch < 8) : Row F := acc (rows V hc) 48 0 (by omega) zeroRow
def dot (V W : ChnV F) {ch : ℕ} (hc : ch < 8) : Row F :=
  acc (fun o ho => mulf (rows V hc o ho) (rows W hc o ho)) 48 0 (by omega) zeroRow

/-- The eight channels' sums of products of rows added up. -/
def dots (V W : ChnV F) : Row F :=
  addf (addf (addf (addf (addf (addf (addf (addf zeroRow (dot V W l0)) (dot V W l1)) (dot V W l2)) (dot V W l3))
    (dot V W l4)) (dot V W l5)) (dot V W l6)) (dot V W l7)
/-- Each channel's sum. -/
def chSums (V : ChnV F) : Col F :=
  colSum (stack (lineSum (tot V l0)) (lineSum (tot V l1)) (lineSum (tot V l2)) (lineSum (tot V l3))
    (lineSum (tot V l4)) (lineSum (tot V l5)) (lineSum (tot V l6)) (lineSum (tot V l7)))

/-! ## The result -/

section
variable (X : BlkV F)

def m0 : F .f32 := mean (sumCol (chSums (plane X 0)))
def m1 : F .f32 := mean (sumCol (chSums (plane X 1)))
def va : F .f32 := varOf (sumRow (dots (plane X 0) (plane X 0))) (m0 X)
def vc : F .f32 := varOf (sumRow (dots (plane X 1) (plane X 1))) (m1 X)
def vb : F .f32 := covOf (sumRow (dots (plane X 0) (plane X 1))) (m0 X) (m1 X)
def rt : F .f32 := rootDet (va X) (vb X) (vc X)
def iv : F .f32 := scaleOf (va X) (vc X) (rt X)
def w00 : F .f32 := diagOf (vc X) (rt X) (iv X)
def w11 : F .f32 := diagOf (va X) (rt X) (iv X)
def w01 : F .f32 := offOf (vb X) (iv X)

/-- The channels' parameters as eight rows. -/
def parRow (S : ParV F) : Row F :=
  toRow (fun j => S ((Rect.unit (s := S1x8x384) ![0, 0, 0] S1x8x384.size inb_S1x8x384_S1x8x384_0_0_0).emb j))

variable (S B : ParV F) {ch : ℕ} (hc : ch < 8)

def p00 : F .f32 := Scalar.mulf (atRow (parRow S) hc) (w00 X)
def p01 : F .f32 := Scalar.mulf (atRow (parRow S) hc) (w01 X)
def p11 : F .f32 := Scalar.mulf (atRow (parRow S) hc) (w11 X)
def z0 : F .f32 := shiftOf (atRow (parRow B) hc) (atCol (chSums (plane X 0)) hc) (p00 X S hc) (m0 X) (p01 X S hc) (m1 X)
def z1 : F .f32 := shiftOf (atRow (parRow B) hc) (atCol (chSums (plane X 1)) hc) (p01 X S hc) (m0 X) (p11 X S hc) (m1 X)

end

/-- One entry of the result. -/
def entry (p q z x y : F .f32) : F .f32 :=
  FloatOps.addf (FloatOps.addf (FloatOps.mulf p x) (FloatOps.mulf q y)) z

/-- The block of the result. -/
def outBlk (X : BlkV F) (S B : ParV F) : BlkV F := fun i =>
  if (i 3).val = 0 then
    entry (p00 X S (i 1).isLt) (p01 X S (i 1).isLt) (z0 X S B (i 1).isLt)
      (plane X 0 (ix3 (i 1) (i 2) (i 4))) (plane X 1 (ix3 (i 1) (i 2) (i 4)))
  else
    entry (p01 X S (i 1).isLt) (p11 X S (i 1).isLt) (z1 X S B (i 1).isLt)
      (plane X 0 (ix3 (i 1) (i 2) (i 4))) (plane X 1 (ix3 (i 1) (i 2) (i 4)))

/-! ## The result, step by step -/

/-- The contents agree with the target on the channels before `ch` and the first `o` rows of channel `ch`. -/
def Agree (T : BlkV F) (ch o : ℕ) (Y : BlkV F) : Prop :=
  ∀ i : S1x8x384x2x384.Idx, ((i 1).val < ch ∨ (i 1).val = ch ∧ (i 2).val < o) → Y i = T i

/-- The target on a channel, from the channel's coefficients. -/
def OnCh (T : BlkV F) (V W : ChnV F) (ch : ℕ) (p q r z z' : F .f32) : Prop :=
  ∀ i : S1x8x384x2x384.Idx, (i 1).val = ch →
    T i = if (i 3).val = 0 then entry p q z (V (ix3 (i 1) (i 2) (i 4))) (W (ix3 (i 1) (i 2) (i 4)))
      else entry q r z' (V (ix3 (i 1) (i 2) (i 4))) (W (ix3 (i 1) (i 2) (i 4)))

/-- Eight rows at an entry. -/
theorem rows_at (V : ChnV F) {ch o : ℕ} (hc : ch < 8) (ho : o + 8 ≤ 384) (a : Fin 8) (b : Fin 384) :
    rows V hc o ho (ix2 a b) = V (ix3 (⟨ch, hc⟩ : Fin 8) (⟨o + a.val, by have := a.isLt; omega⟩ : Fin 384) b) := by
  unfold rows toRow
  rw [shapeCast_apply _ _ _ (ix3 (0 : Fin 1) a b : S1x8x384.Idx)
    (by rw [Shape.rowMajor_val_three, Shape.rowMajor_val_two]; show (0 * 8 + a.val) * 384 + b.val = a.val * 384 + b.val; omega)]
  rw [rowRect_emb]
  rfl

/-- Eight rows of one component, as the store writes them, at an entry. -/
theorem stored_at (p q z : F .f32) (V W : ChnV F) {ch o : ℕ} (hc : ch < 8) (ho : o + 8 ≤ 384) (j : S1x1x8x1x384.Idx) :
    shapeCast S1x1x8x1x384 (outRow p q z (rows V hc o ho) (rows W hc o ho)) shapeCasts_S8x384_S1x1x8x1x384 j
      = entry p q z
        (V (ix3 (⟨ch, hc⟩ : Fin 8) (⟨o + (j 2).val, by have h := (j 2).isLt; change (j 2).val < 8 at h; omega⟩ : Fin 384) (j 4)))
        (W (ix3 (⟨ch, hc⟩ : Fin 8) (⟨o + (j 2).val, by have h := (j 2).isLt; change (j 2).val < 8 at h; omega⟩ : Fin 384) (j 4))) := by
  rw [shapeCast_apply _ _ _ (ix2 (j 2) (j 4) : S8x384.Idx) (by
    rw [Shape.rowMajor_val_two, Shape.rowMajor_val_five]
    have h0 := (j 0).isLt; change (j 0).val < 1 at h0
    have h1 := (j 1).isLt; change (j 1).val < 1 at h1
    have h3 := (j 3).isLt; change (j 3).val < 1 at h3
    show (j 2).val * 384 + (j 4).val = ((((j 0).val * 1 + (j 1).val) * 8 + (j 2).val) * 1 + (j 3).val) * 384 + (j 4).val
    omega)]
  show entry p q z (rows V hc o ho (ix2 (j 2) (j 4))) (rows W hc o ho (ix2 (j 2) (j 4))) = _
  exact congrArg₂ (entry p q z) (rows_at V hc ho (j 2) (j 4)) (rows_at W hc ho (j 2) (j 4))

/-- Eight more rows of a channel's two components written. -/
theorem agree_step {T Y : BlkV F} {V W : ChnV F} {ch o : ℕ} {p q r z z' : F .f32} (hc : ch < 8) (ho : o + 8 ≤ 384)
    (hT : OnCh T V W ch p q r z z') (h : Agree T ch o Y) :
    Agree T ch (o + 8) ((outRect hc ho Nat.one_lt_two).overlay ((outRect hc ho Nat.zero_lt_two).overlay Y
      (shapeCast S1x1x8x1x384 (outRow p q z (rows V hc o ho) (rows W hc o ho)) shapeCasts_S8x384_S1x1x8x1x384))
      (shapeCast S1x1x8x1x384 (outRow q r z' (rows V hc o ho) (rows W hc o ho)) shapeCasts_S8x384_S1x1x8x1x384)) := by
  intro i hi
  by_cases h1 : i ∈ (outRect hc ho Nat.one_lt_two).set
  · obtain ⟨j, rfl⟩ := (outRect hc ho Nat.one_lt_two).exists_idx_of_mem h1
    change ((outRect hc ho Nat.one_lt_two).overlay _ _) ((outRect hc ho Nat.one_lt_two).emb j) = T ((outRect hc ho Nat.one_lt_two).emb j)
    rw [Rect.overlay_emb, hT _ (by rw [outRect_emb]), stored_at, outRect_emb]
    rfl
  · rw [Rect.overlay_of_not_mem _ _ _ h1]
    by_cases h0 : i ∈ (outRect hc ho Nat.zero_lt_two).set
    · obtain ⟨j, rfl⟩ := (outRect hc ho Nat.zero_lt_two).exists_idx_of_mem h0
      change ((outRect hc ho Nat.zero_lt_two).overlay _ _) ((outRect hc ho Nat.zero_lt_two).emb j) = T ((outRect hc ho Nat.zero_lt_two).emb j)
      rw [Rect.overlay_emb, hT _ (by rw [outRect_emb]), stored_at, outRect_emb]
      rfl
    · rw [Rect.overlay_of_not_mem _ _ _ h0]
      refine h i ?_
      rcases hi with hi | ⟨hi, hi'⟩
      · exact Or.inl hi
      · refine Or.inr ⟨hi, ?_⟩
        by_contra hlt
        have h3 := (i 3).isLt
        change (i 3).val < 2 at h3
        have h0' := (i 0).isLt
        change (i 0).val < 1 at h0'
        have h4' := (i 4).isLt
        change (i 4).val < 384 at h4'
        by_cases hd : (i 3).val = 0
        · refine h0 (Rect.mem_set_unit.mpr fun a => ?_)
          fin_cases a
          · exact ⟨Nat.zero_le _, by show (i 0).val < 0 + 1; omega⟩
          · exact ⟨by show ch ≤ (i 1).val; omega, by show (i 1).val < ch + 1; omega⟩
          · exact ⟨by show o ≤ (i 2).val; omega, by show (i 2).val < o + 8; omega⟩
          · exact ⟨Nat.zero_le _, by show (i 3).val < 0 + 1; omega⟩
          · exact ⟨Nat.zero_le _, by show (i 4).val < 0 + 384; omega⟩
        · refine h1 (Rect.mem_set_unit.mpr fun a => ?_)
          fin_cases a
          · exact ⟨Nat.zero_le _, by show (i 0).val < 0 + 1; omega⟩
          · exact ⟨by show ch ≤ (i 1).val; omega, by show (i 1).val < ch + 1; omega⟩
          · exact ⟨by show o ≤ (i 2).val; omega, by show (i 2).val < o + 8; omega⟩
          · exact ⟨by show 1 ≤ (i 3).val; omega, by show (i 3).val < 1 + 1; omega⟩
          · exact ⟨Nat.zero_le _, by show (i 4).val < 0 + 384; omega⟩

/-- A finished channel is where the next one starts. -/
theorem agree_next {T Y : BlkV F} {ch : ℕ} (h : Agree T ch 384 Y) : Agree T (ch + 1) 0 Y := by
  intro i hi
  have h2 := (i 2).isLt
  change (i 2).val < 384 at h2
  refine h i ?_
  omega

/-- All channels written is the target. -/
theorem agree_all {T Y : BlkV F} (h : Agree T 8 0 Y) : Y = T := by
  funext i
  have h1 := (i 1).isLt
  change (i 1).val < 8 at h1
  exact h i (Or.inl h1)

/-- The result's block on a channel is given by the channel's coefficients. -/
theorem onCh_outBlk (X : BlkV F) (S B : ParV F) {ch : ℕ} (hc : ch < 8) :
    OnCh (outBlk X S B) (plane X 0) (plane X 1) ch (p00 X S hc) (p01 X S hc) (p11 X S hc) (z0 X S B hc) (z1 X S B hc) := by
  intro i hi
  subst hi
  rfl

end Cert.KernelIdeal.Values

end
-- ==== Proof.KernelIdeal.Segments.lean ====
/-
  The printed body of the kernel is the loops of `Plan`.
-/
module

public import proofs.«01_k».proof.Proof.KernelIdeal.Plan
public import Idealize.ShloMosaic.Lib.Tactic

@[expose] public section

set_option maxRecDepth 16384

noncomputable section

namespace Cert.KernelIdeal.Plan

open Cert.KernelIdeal Cert.KernelIdeal.Gen
open Idealize.ShloMosaic Idealize.SL.Sem

variable {F : FTy → Type} [FloatOps F] [Named F]
variable (i : grid0.Coords) (arg1 : Blk) (harg1 : arg1.IsWhole) (arg2 : Par) (harg2 : arg2.IsWhole) (arg3 : Par) (harg3 : arg3.IsWhole)
  (arg4 : Blk) (harg4 : arg4.IsWhole) (arg5 : Chn) (harg5 : arg5.IsWhole) (arg6 : Chn) (harg6 : arg6.IsWhole) (arg7 : DmaSems sig S8x2)

/-- The printed body is the loops. -/
theorem body_eq :
    cc0__fused_kernel (F := F) i arg1 harg1 arg2 harg2 arg3 harg3 arg4 harg4 arg5 harg5 arg6 harg6 arg7
      = plan arg1 arg2 arg3 arg4 arg5 arg6 arg7 := by
  sl_kernel_rfl

end Cert.KernelIdeal.Plan

end
-- ==== Proof.KernelIdeal.Triple.lean ====
/-
  The body's run: from its blocks held at known contents to the result's block held at its target, channel by channel.
-/
module

public import proofs.«01_k».proof.Proof.KernelIdeal.Moves
public import proofs.«01_k».proof.Proof.KernelIdeal.Values
public import proofs.«01_k».proof.Proof.KernelIdeal.Segments

@[expose] public section

set_option maxRecDepth 16384

noncomputable section

namespace Cert.KernelIdeal.Triple

open Cert.KernelIdeal Cert.KernelIdeal.Gen Cert.KernelIdeal.Plan Cert.KernelIdeal.Values Cert.KernelIdeal.Moves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A component of a channel of the input, held. -/
def srcHeld (c : Dev nD) (m : Blk) (X : BlkV F) {ch d : ℕ} (hc : ch < 8) (hd : d < 2) : sProp 𝕄 :=
  owns (c : Thread nD τ) (m.slice (srcRect hc hd) (fun _ => rfl)) fullShare (fun j => X ((srcRect hc hd).emb j))
/-- A channel's plane of a scratch buffer, held. -/
def plHeld (c : Dev nD) (m : Chn) (V : ChnV F) {ch : ℕ} (hc : ch < 8) : sProp 𝕄 :=
  owns (c : Thread nD τ) (m.slice (planeRect hc) (fun _ => rfl)) fullShare (fun j => V ((planeRect hc).emb j))
/-- A component's transfer's counter at zero. -/
def idle (c : Dev nD) (m : DmaSems sig S8x2) {ch d : ℕ} (hc : ch < 8) (hd : d < 2) : sProp 𝕄 :=
  semVal ((c : Thread nD τ), SemLoc.dma (semOf m hc hd).sem) 0
/-- A component's transfer in flight. -/
def flight (c : Dev nD) (arg1 : Blk) (m : Chn) (arg7 : DmaSems sig S8x2) (X : BlkV F) {ch d : ℕ} (hc : ch < 8) (hd : d < 2) : sProp 𝕄 :=
  Transfers.Flight (cells (F := F)) (c : Thread nD τ) (SemLoc.dma (semOf arg7 hc hd).sem) () (dstOf m hc).view.dmaCredit
    iprop(plHeld c m (plane X ⟨d, hd⟩) hc ∗ srcHeld c arg1 X hc hd)

section
variable (c : Dev nD) (arg1 : Blk) (arg4 : Blk) (arg5 arg6 : Chn) (arg7 : DmaSems sig S8x2) (X : BlkV F)

/-- A component's transfer issued. -/
theorem issue_run {Q : PUnit.{1} → sProp 𝕄} (m : Chn) (V : ChnV F) {ch d : ℕ} (hc : ch < 8) (hd : d < 2)
    (h0 : 0 < (dstOf m hc).view.dmaCredit) {h1 h2 h3} {k : PUnit.{1} → T F} :
    iprop(srcHeld c arg1 X hc hd ∗ plHeld c m V hc ∗ idle c arg7 hc hd)
      ⊢ iprop((flight c arg1 m arg7 X hc hd -∗ run c (k ⟨⟩) Q)
        -∗ run c (.op (.enqueueDma (srcOf arg1 hc hd) (.here (dstOf m hc)) (.dma (semOf arg7 hc hd).sem) h1 h2 h3) k) Q) := by
  have h := issue (Q := Q) c (src := srcOf arg1 hc hd) (dst := dstOf m hc) (sm := (semOf arg7 hc hd).sem) (hsrc := h1) (hdst := h2) (hsem := h3)
    (k := k) h0 (fun j => X ((srcRect hc hd).emb (Shape.reshapeEquiv squeezes_S1x1x384x1x384_S384x384.numel_eq j)))
    (fun j => V ((planeRect hc).emb (Shape.reshapeEquiv squeezes_S1x384x384_S384x384.numel_eq j)))
  have hs : owns (c : Thread nD τ) (srcOf arg1 hc hd) fullShare
      (fun j => X ((srcRect hc hd).emb (Shape.reshapeEquiv squeezes_S1x1x384x1x384_S384x384.numel_eq j)))
      = srcHeld c arg1 X hc hd := owns_squeeze c _ squeezes_S1x1x384x1x384_S384x384 _ (fun j => X ((srcRect hc hd).emb j))
  have hp (V : ChnV F) : owns (c : Thread nD τ) (dstOf m hc) fullShare
      (fun j => V ((planeRect hc).emb (Shape.reshapeEquiv squeezes_S1x384x384_S384x384.numel_eq j)))
      = plHeld c m V hc := owns_squeeze c _ squeezes_S1x384x384_S384x384 _ (fun j => V ((planeRect hc).emb j))
  rw [hp V, hs] at h
  rw [show (fun j => X ((srcRect hc hd).emb (Shape.reshapeEquiv squeezes_S1x1x384x1x384_S384x384.numel_eq j)))
      = fun j => plane X ⟨d, hd⟩ ((planeRect hc).emb (Shape.reshapeEquiv squeezes_S1x384x384_S384x384.numel_eq j)) from
      funext (landed_eq X hc hd), hp] at h
  exact h

/-- A channel before its transfers. -/
def ready {ch : ℕ} (hc : ch < 8) : sProp 𝕄 :=
  iprop(srcHeld c arg1 X hc Nat.zero_lt_two ∗ srcHeld c arg1 X hc Nat.one_lt_two
    ∗ (∃ V, plHeld c arg5 V hc) ∗ (∃ V, plHeld c arg6 V hc)
    ∗ idle c arg7 hc Nat.zero_lt_two ∗ idle c arg7 hc Nat.one_lt_two)
/-- A channel during its transfers. -/
def flying {ch : ℕ} (hc : ch < 8) : sProp 𝕄 :=
  iprop(flight c arg1 arg5 arg7 X hc Nat.zero_lt_two ∗ flight c arg1 arg6 arg7 X hc Nat.one_lt_two)
/-- A channel's two planes. -/
def planes {ch : ℕ} (hc : ch < 8) : sProp 𝕄 := iprop(plHeld c arg5 (plane X 0) hc ∗ plHeld c arg6 (plane X 1) hc)
/-- A channel after its transfers: but for its planes. -/
def rested {ch : ℕ} (hc : ch < 8) : sProp 𝕄 :=
  iprop(srcHeld c arg1 X hc Nat.zero_lt_two ∗ srcHeld c arg1 X hc Nat.one_lt_two
    ∗ idle c arg7 hc Nat.zero_lt_two ∗ idle c arg7 hc Nat.one_lt_two)
/-- What the core has waited for. -/
def waits : sProp 𝕄 := iprop(∃ W, owes (c : Thread nD τ) 0 W)

theorem start_run {Q : PUnit.{1} → sProp 𝕄} {ch : ℕ} (hc : ch < 8) (h5 : 0 < (dstOf arg5 hc).view.dmaCredit)
    (h6 : 0 < (dstOf arg6 hc).view.dmaCredit) {K : T F} :
    ready c arg1 arg5 arg6 arg7 X hc
      ⊢ iprop((flying c arg1 arg5 arg6 arg7 X hc -∗ run c K Q) -∗ run c (start arg1 arg5 arg6 arg7 hc K) Q) := by
  unfold ready flying
  iintro ⟨Hs0, Hs1, ⟨%V5, H5⟩, ⟨%V6, H6⟩, Hi0, Hi1⟩ Hk
  unfold start
  iapply (issue_run c arg1 arg7 X arg5 V5 hc Nat.zero_lt_two h5) $$ [Hs0 H5 Hi0]
  · isplitl [Hs0]; · iexact Hs0
    isplitl [H5]; · iexact H5
    iexact Hi0
  iintro Hf0
  iapply (issue_run c arg1 arg7 X arg6 V6 hc Nat.one_lt_two h6) $$ [Hs1 H6 Hi1]
  · isplitl [Hs1]; · iexact Hs1
    isplitl [H6]; · iexact H6
    iexact Hi1
  iintro Hf1
  iapply Hk
  isplitl [Hf0]; · iexact Hf0
  iexact Hf1

theorem await_run {Q : PUnit.{1} → sProp 𝕄} {ch : ℕ} (hc : ch < 8) {K : T F} :
    iprop(flying c arg1 arg5 arg6 arg7 X hc ∗ waits c)
      ⊢ iprop((iprop(planes c arg5 arg6 X hc ∗ rested c arg1 arg7 X hc ∗ waits c) -∗ run c K Q)
        -∗ run c (await arg1 arg5 arg6 arg7 hc K) Q) := by
  unfold flying planes rested waits
  iintro ⟨⟨Hf0, Hf1⟩, HW⟩ Hk
  unfold await flight
  iapply (wait c) $$ [Hf0 HW]
  · isplitl [Hf0]; · iexact Hf0
    iexact HW
  iintro ⟨⟨H5, Hs0⟩, Hi0, HW⟩
  iapply (wait c) $$ [Hf1 HW]
  · isplitl [Hf1]; · iexact Hf1
    iexact HW
  iintro ⟨⟨H6, Hs1⟩, Hi1, HW⟩
  iapply Hk
  isplitl [H5 H6]
  · isplitl [H5]; · iexact H5
    iexact H6
  isplitr [HW]
  · isplitl [Hs0]; · iexact Hs0
    isplitl [Hs1]; · iexact Hs1
    isplitl [Hi0]; · unfold idle; iexact Hi0
    unfold idle; iexact Hi1
  iexact HW

/-- The rows of a plane lie in the plane. -/
theorem row_sub {ch o : ℕ} (hc : ch < 8) (ho : o + 8 ≤ 384) : (rowRect hc ho).set ⊆ (planeRect hc).set := by
  intro i hi
  have h := Rect.mem_set_unit.mp hi
  refine Rect.mem_set_unit.mpr fun a => ?_
  have ha := h a
  have hlt := (i a).isLt
  fin_cases a
  · exact ha
  · exact ⟨Nat.zero_le _, by show (i 1).val < 0 + 384; change (i 1).val < 384 at hlt; omega⟩
  · exact ha

theorem get_run {Q : PUnit.{1} → sProp 𝕄} (m : Chn) (V : ChnV F) {ch o : ℕ} (hc : ch < 8) (ho : o + 8 ≤ 384)
    {K : Vec F S1x8x384 .f32 → T F} :
    plHeld c m V hc
      ⊢ iprop((plHeld c m V hc -∗ run c (K (fun j => V ((rowRect hc ho).emb j))) Q) -∗ run c (get m hc ho K) Q) :=
  Moves.load c m (R := planeRect hc) (fun _ => rfl) (row_sub hc ho) V

theorem sums_run {Q : PUnit.{1} → sProp 𝕄} {ch : ℕ} (hc : ch < 8) :
    ∀ (n o : ℕ) (h : o + 8 * n ≤ 384) (a b q r p : Row F) (K : Row F → Row F → Row F → Row F → Row F → T F),
    planes c arg5 arg6 X hc
      ⊢ iprop((planes c arg5 arg6 X hc -∗ run c (K (acc (rows (plane X 0) hc) n o h a) (acc (rows (plane X 1) hc) n o h b)
            (acc (fun o ho => mulf (rows (plane X 0) hc o ho) (rows (plane X 0) hc o ho)) n o h q)
            (acc (fun o ho => mulf (rows (plane X 1) hc o ho) (rows (plane X 1) hc o ho)) n o h r)
            (acc (fun o ho => mulf (rows (plane X 0) hc o ho) (rows (plane X 1) hc o ho)) n o h p)) Q)
        -∗ run c (sums arg5 arg6 hc n o h a b q r p K) Q) := by
  intro n
  induction n with
  | zero =>
    intro o h a b q r p K
    iintro Hp Hk
    unfold sums acc
    iapply Hk; iexact Hp
  | succ n ih =>
    intro o h a b q r p K
    unfold sums
    have e (g : (o : ℕ) → o + 8 ≤ 384 → Row F) (a : Row F) :
        acc g (n + 1) o h a = acc g n (o + 8) (by omega) (addf a (g o (by omega))) := rfl
    rw [e, e, e, e, e]
    iintro Hp Hk
    ihave Hp' := (show planes c arg5 arg6 X hc ⊢ iprop(plHeld c arg5 (plane X 0) hc ∗ plHeld c arg6 (plane X 1) hc) from .rfl) $$ Hp
    icases Hp' with ⟨H5, H6⟩
    iapply (get_run c arg5 (plane X 0) hc _) $$ [H5]
    · iexact H5
    iintro H5
    iapply (get_run c arg6 (plane X 1) hc _) $$ [H6]
    · iexact H6
    iintro H6
    iapply (ih (o + 8) _ _ _ _ _ _ K) $$ [H5 H6]
    · unfold planes
      isplitl [H5]; · iexact H5
      iexact H6
    iintro Hp
    iapply Hk; iexact Hp

theorem chan_run {Q : PUnit.{1} → sProp 𝕄} {ch : ℕ} (hc : ch < 8) {qa qb qp : Row F}
    {K : Row F → Row F → Row F → Line F → Line F → T F} :
    iprop(flying c arg1 arg5 arg6 arg7 X hc ∗ waits c)
      ⊢ iprop((iprop(planes c arg5 arg6 X hc ∗ rested c arg1 arg7 X hc ∗ waits c)
          -∗ run c (K (addf qa (dot (plane X 0) (plane X 0) hc)) (addf qb (dot (plane X 1) (plane X 1) hc))
            (addf qp (dot (plane X 0) (plane X 1) hc)) (lineSum (tot (plane X 0) hc)) (lineSum (tot (plane X 1) hc))) Q)
        -∗ run c (chan arg1 arg5 arg6 arg7 hc qa qb qp K) Q) := by
  iintro H Hk
  unfold chan
  iapply (await_run c arg1 arg5 arg6 arg7 X hc) $$ H
  iintro ⟨Hp, Hr, HW⟩
  iapply (sums_run c arg5 arg6 X hc 48 0 _ _ _ _ _ _ _) $$ Hp
  iintro Hp
  iapply Hk
  isplitl [Hp]; · iexact Hp
  isplitl [Hr]; · iexact Hr
  iexact HW

/-- The result's block, finished on the channels before `ch` and the first `o` rows of channel `ch`. -/
def partly (T : BlkV F) (ch o : ℕ) : sProp 𝕄 := iprop(∃ Y, ⌜Agree T ch o Y⌝ ∗ owns (c : Thread nD τ) arg4 fullShare Y)

theorem apply_run {Q : PUnit.{1} → sProp 𝕄} {T : BlkV F} {ch : ℕ} (hc : ch < 8) {p q r z z' : F .f32}
    (hT : OnCh T (plane X 0) (plane X 1) ch p q r z z') :
    ∀ (n o : ℕ) (h : o + 8 * n ≤ 384) (K : Plan.T F),
    iprop(planes c arg5 arg6 X hc ∗ partly c arg4 T ch o)
      ⊢ iprop((iprop(planes c arg5 arg6 X hc ∗ partly c arg4 T ch (o + 8 * n)) -∗ run c K Q)
        -∗ run c (Plan.apply arg4 arg5 arg6 hc p q r z z' n o h K) Q) := by
  intro n
  induction n with
  | zero =>
    intro o h K
    iintro H Hk
    unfold Plan.apply
    iapply Hk; iexact H
  | succ n ih =>
    intro o h K
    unfold Plan.apply put
    rw [show o + 8 * (n + 1) = o + 8 + 8 * n by omega]
    iintro ⟨Hp, Ho⟩ Hk
    ihave Hp' := (show planes c arg5 arg6 X hc ⊢ iprop(plHeld c arg5 (plane X 0) hc ∗ plHeld c arg6 (plane X 1) hc) from .rfl) $$ Hp
    icases Hp' with ⟨H5, H6⟩
    ihave Ho' := (show partly c arg4 T ch o ⊢ iprop(∃ Y, ⌜Agree T ch o Y⌝ ∗ owns (c : Thread nD τ) arg4 fullShare Y) from .rfl) $$ Ho
    icases Ho' with ⟨%Y, %hY, Ho⟩
    iapply (get_run c arg5 (plane X 0) hc _) $$ [H5]
    · iexact H5
    iintro H5
    iapply (get_run c arg6 (plane X 1) hc _) $$ [H6]
    · iexact H6
    iintro H6
    iapply (loadWhole c arg4 Y) $$ [Ho]
    · iexact Ho
    iintro Ho
    iapply (store c arg4 Y) $$ [Ho]
    · iexact Ho
    iintro Ho
    iapply (loadWhole c arg4 _) $$ [Ho]
    · iexact Ho
    iintro Ho
    iapply (store c arg4 _) $$ [Ho]
    · iexact Ho
    iintro Ho
    iapply (ih (o + 8) _ K) $$ [H5 H6 Ho]
    · unfold planes partly
      isplitl [H5 H6]
      · isplitl [H5]; · iexact H5
        iexact H6
      iexists _
      isplitr
      · ipureintro; exact agree_step hc (by omega) hT hY
      · iexact Ho
    iexact Hk

theorem chanOut_run {Q : PUnit.{1} → sProp 𝕄} (S B : ParV F) {ch : ℕ} (hc : ch < 8) (K : T F) :
    iprop(planes c arg5 arg6 X hc ∗ partly c arg4 (outBlk X S B) ch 0)
      ⊢ iprop((iprop(planes c arg5 arg6 X hc ∗ partly c arg4 (outBlk X S B) (ch + 1) 0) -∗ run c K Q)
        -∗ run c (chanOut arg4 arg5 arg6 hc (chSums (plane X 0)) (chSums (plane X 1)) (m0 X) (m1 X) (w00 X) (w11 X) (w01 X)
          (parRow S) (parRow B) 48 0 (by decide) K) Q) := by
  iintro H Hk
  unfold chanOut
  iapply (apply_run c arg4 arg5 arg6 X hc (onCh_outBlk X S B hc) 48 0 _ K) $$ H
  iintro ⟨Hp, Ho⟩
  iapply Hk
  isplitl [Hp]; · iexact Hp
  unfold partly
  icases Ho with ⟨%Y, %hY, Ho⟩
  iexists Y
  isplitr
  · ipureintro; exact agree_next hY
  · iexact Ho

/-- Every channel's planes, and every channel at rest otherwise. -/
def allReady : sProp 𝕄 :=
  iprop(ready c arg1 arg5 arg6 arg7 X l0 ∗ ready c arg1 arg5 arg6 arg7 X l1 ∗ ready c arg1 arg5 arg6 arg7 X l2 ∗ ready c arg1 arg5 arg6 arg7 X l3 ∗ ready c arg1 arg5 arg6 arg7 X l4 ∗ ready c arg1 arg5 arg6 arg7 X l5 ∗ ready c arg1 arg5 arg6 arg7 X l6 ∗ ready c arg1 arg5 arg6 arg7 X l7)
def allPlanes : sProp 𝕄 :=
  iprop(planes c arg5 arg6 X l0 ∗ planes c arg5 arg6 X l1 ∗ planes c arg5 arg6 X l2 ∗ planes c arg5 arg6 X l3 ∗ planes c arg5 arg6 X l4 ∗ planes c arg5 arg6 X l5 ∗ planes c arg5 arg6 X l6 ∗ planes c arg5 arg6 X l7)
def allRested : sProp 𝕄 :=
  iprop(rested c arg1 arg7 X l0 ∗ rested c arg1 arg7 X l1 ∗ rested c arg1 arg7 X l2 ∗ rested c arg1 arg7 X l3 ∗ rested c arg1 arg7 X l4 ∗ rested c arg1 arg7 X l5 ∗ rested c arg1 arg7 X l6 ∗ rested c arg1 arg7 X l7)

theorem outs_run {Q : PUnit.{1} → sProp 𝕄} (S B : ParV F) (K : T F) :
    iprop(allPlanes c arg5 arg6 X ∗ (∃ Y, owns (c : Thread nD τ) arg4 fullShare Y))
      ⊢ iprop((iprop(allPlanes c arg5 arg6 X ∗ owns (c : Thread nD τ) arg4 fullShare (outBlk X S B)) -∗ run c K Q)
        -∗ run c (outs arg4 arg5 arg6 (chSums (plane X 0)) (chSums (plane X 1)) (m0 X) (m1 X) (w00 X) (w11 X) (w01 X)
          (parRow S) (parRow B) K) Q) := by
  unfold allPlanes outs
  iintro ⟨⟨Hp0, Hp1, Hp2, Hp3, Hp4, Hp5, Hp6, Hp7⟩, ⟨%Y, Ho⟩⟩ Hk
  ihave Ho := (show owns (c : Thread nD τ) arg4 fullShare Y ⊢ partly c arg4 (outBlk X S B) 0 0 from by
    unfold partly
    iintro Ho; iexists Y; isplitr
    · ipureintro; intro i hi; exact absurd hi (by omega)
    · iexact Ho) $$ Ho
  iapply (chanOut_run c arg4 arg5 arg6 X S B l0) $$ [Hp0 Ho]
  · isplitl [Hp0]; · iexact Hp0
    iexact Ho
  iintro ⟨Hp0, Ho⟩
  iapply (chanOut_run c arg4 arg5 arg6 X S B l1) $$ [Hp1 Ho]
  · isplitl [Hp1]; · iexact Hp1
    iexact Ho
  iintro ⟨Hp1, Ho⟩
  iapply (chanOut_run c arg4 arg5 arg6 X S B l2) $$ [Hp2 Ho]
  · isplitl [Hp2]; · iexact Hp2
    iexact Ho
  iintro ⟨Hp2, Ho⟩
  iapply (chanOut_run c arg4 arg5 arg6 X S B l3) $$ [Hp3 Ho]
  · isplitl [Hp3]; · iexact Hp3
    iexact Ho
  iintro ⟨Hp3, Ho⟩
  iapply (chanOut_run c arg4 arg5 arg6 X S B l4) $$ [Hp4 Ho]
  · isplitl [Hp4]; · iexact Hp4
    iexact Ho
  iintro ⟨Hp4, Ho⟩
  iapply (chanOut_run c arg4 arg5 arg6 X S B l5) $$ [Hp5 Ho]
  · isplitl [Hp5]; · iexact Hp5
    iexact Ho
  iintro ⟨Hp5, Ho⟩
  iapply (chanOut_run c arg4 arg5 arg6 X S B l6) $$ [Hp6 Ho]
  · isplitl [Hp6]; · iexact Hp6
    iexact Ho
  iintro ⟨Hp6, Ho⟩
  iapply (chanOut_run c arg4 arg5 arg6 X S B l7) $$ [Hp7 Ho]
  · isplitl [Hp7]; · iexact Hp7
    iexact Ho
  iintro ⟨Hp7, Ho⟩
  ihave Ho' := (show partly c arg4 (outBlk X S B) 8 0 ⊢ owns (c : Thread nD τ) arg4 fullShare (outBlk X S B) from by
    unfold partly
    iintro ⟨%Y, %hY, Ho⟩
    rw [← agree_all hY]; iexact Ho) $$ Ho
  iapply Hk
  isplitr [Ho']
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  iexact Ho'

theorem scalars_run {Q : PUnit.{1} → sProp 𝕄} (arg2 arg3 : Par) (S B : ParV F)
    (K : F .f32 → F .f32 → F .f32 → F .f32 → F .f32 → Row F → Row F → T F) :
    iprop(owns (c : Thread nD τ) arg2 fullShare S ∗ owns (c : Thread nD τ) arg3 fullShare B)
      ⊢ iprop((iprop(owns (c : Thread nD τ) arg2 fullShare S ∗ owns (c : Thread nD τ) arg3 fullShare B)
          -∗ run c (K (m0 X) (m1 X) (w00 X) (w11 X) (w01 X) (parRow S) (parRow B)) Q)
        -∗ run c (scalars arg2 arg3 (chSums (plane X 0)) (chSums (plane X 1)) (dots (plane X 0) (plane X 0))
          (dots (plane X 1) (plane X 1)) (dots (plane X 0) (plane X 1)) K) Q) := by
  iintro ⟨H2, H3⟩ Hk
  unfold scalars
  iapply (loadWhole c arg2 S) $$ [H2]
  · iexact H2
  iintro H2
  iapply (loadWhole c arg3 B) $$ [H3]
  · iexact H3
  iintro H3
  iapply Hk
  isplitl [H2]; · iexact H2
  iexact H3

theorem plan_run {Q : PUnit.{1} → sProp 𝕄} (arg2 arg3 : Par) (S B : ParV F)
    (h5 : ∀ {ch : ℕ} (hc : ch < 8), 0 < (dstOf arg5 hc).view.dmaCredit)
    (h6 : ∀ {ch : ℕ} (hc : ch < 8), 0 < (dstOf arg6 hc).view.dmaCredit) :
    iprop(allReady c arg1 arg5 arg6 arg7 X ∗ owns (c : Thread nD τ) arg2 fullShare S ∗ owns (c : Thread nD τ) arg3 fullShare B
        ∗ (∃ Y, owns (c : Thread nD τ) arg4 fullShare Y) ∗ waits c)
      ⊢ iprop((iprop(allPlanes c arg5 arg6 X ∗ allRested c arg1 arg7 X
          ∗ owns (c : Thread nD τ) arg2 fullShare S ∗ owns (c : Thread nD τ) arg3 fullShare B
          ∗ owns (c : Thread nD τ) arg4 fullShare (outBlk X S B) ∗ waits c) -∗ Q ⟨⟩)
        -∗ run c (plan arg1 arg2 arg3 arg4 arg5 arg6 arg7) Q) := by
  unfold allReady plan
  iintro ⟨⟨Hr0, Hr1, Hr2, Hr3, Hr4, Hr5, Hr6, Hr7⟩, H2, H3, Ho, HW⟩ Hk
  iapply (start_run c arg1 arg5 arg6 arg7 X l0 (h5 l0) (h6 l0)) $$ Hr0
  iintro Hf0
  iapply (start_run c arg1 arg5 arg6 arg7 X l1 (h5 l1) (h6 l1)) $$ Hr1
  iintro Hf1
  iapply (start_run c arg1 arg5 arg6 arg7 X l2 (h5 l2) (h6 l2)) $$ Hr2
  iintro Hf2
  iapply (start_run c arg1 arg5 arg6 arg7 X l3 (h5 l3) (h6 l3)) $$ Hr3
  iintro Hf3
  iapply (start_run c arg1 arg5 arg6 arg7 X l4 (h5 l4) (h6 l4)) $$ Hr4
  iintro Hf4
  iapply (start_run c arg1 arg5 arg6 arg7 X l5 (h5 l5) (h6 l5)) $$ Hr5
  iintro Hf5
  iapply (start_run c arg1 arg5 arg6 arg7 X l6 (h5 l6) (h6 l6)) $$ Hr6
  iintro Hf6
  iapply (start_run c arg1 arg5 arg6 arg7 X l7 (h5 l7) (h6 l7)) $$ Hr7
  iintro Hf7
  iapply (chan_run c arg1 arg5 arg6 arg7 X l0) $$ [Hf0 HW]
  · isplitl [Hf0]; · iexact Hf0
    iexact HW
  iintro ⟨Hp0, Hr0, HW⟩
  iapply (chan_run c arg1 arg5 arg6 arg7 X l1) $$ [Hf1 HW]
  · isplitl [Hf1]; · iexact Hf1
    iexact HW
  iintro ⟨Hp1, Hr1, HW⟩
  iapply (chan_run c arg1 arg5 arg6 arg7 X l2) $$ [Hf2 HW]
  · isplitl [Hf2]; · iexact Hf2
    iexact HW
  iintro ⟨Hp2, Hr2, HW⟩
  iapply (chan_run c arg1 arg5 arg6 arg7 X l3) $$ [Hf3 HW]
  · isplitl [Hf3]; · iexact Hf3
    iexact HW
  iintro ⟨Hp3, Hr3, HW⟩
  iapply (chan_run c arg1 arg5 arg6 arg7 X l4) $$ [Hf4 HW]
  · isplitl [Hf4]; · iexact Hf4
    iexact HW
  iintro ⟨Hp4, Hr4, HW⟩
  iapply (chan_run c arg1 arg5 arg6 arg7 X l5) $$ [Hf5 HW]
  · isplitl [Hf5]; · iexact Hf5
    iexact HW
  iintro ⟨Hp5, Hr5, HW⟩
  iapply (chan_run c arg1 arg5 arg6 arg7 X l6) $$ [Hf6 HW]
  · isplitl [Hf6]; · iexact Hf6
    iexact HW
  iintro ⟨Hp6, Hr6, HW⟩
  iapply (chan_run c arg1 arg5 arg6 arg7 X l7) $$ [Hf7 HW]
  · isplitl [Hf7]; · iexact Hf7
    iexact HW
  iintro ⟨Hp7, Hr7, HW⟩
  iapply (scalars_run c X arg2 arg3 S B) $$ [H2 H3]
  · isplitl [H2]; · iexact H2
    iexact H3
  iintro ⟨H2, H3⟩
  iapply (outs_run c arg4 arg5 arg6 X S B) $$ [Hp0 Hp1 Hp2 Hp3 Hp4 Hp5 Hp6 Hp7 Ho]
  · isplitr [Ho]
    · unfold allPlanes
      isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      iexact Hp7
    iexact Ho
  iintro ⟨Hp, Ho⟩
  iapply le_wp_ret
  iapply Hk
  isplitl [Hp]; · iexact Hp
  isplitl [Hr0 Hr1 Hr2 Hr3 Hr4 Hr5 Hr6 Hr7]
  · unfold allRested
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [H2]; · iexact H2
  isplitl [H3]; · iexact H3
  isplitl [Ho]; · iexact Ho
  iexact HW

end

end Cert.KernelIdeal.Triple

end
-- ==== Proof.KernelIdeal.Whole.lean ====
/-
  The body's run on whole buffers: the input block and the two scratch buffers cut into their channels and joined again.
-/
module

public import proofs.«01_k».proof.Proof.KernelIdeal.Triple

@[expose] public section

set_option maxRecDepth 16384

noncomputable section

namespace Cert.KernelIdeal.Whole

open Cert.KernelIdeal Cert.KernelIdeal.Gen Cert.KernelIdeal.Plan Cert.KernelIdeal.Values Cert.KernelIdeal.Moves Cert.KernelIdeal.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The components' rectangles of the input block. -/
def srcs (t : Fin 8 × Fin 2) := srcRect t.1.isLt t.2.isLt
/-- The channels' rectangles of a scratch buffer. -/
def chns (t : Fin 8) := planeRect t.isLt

theorem srcs_disjoint (t t' : Fin 8 × Fin 2) (h : t ≠ t') : Disjoint (srcs t).set (srcs t').set := by
  by_cases h1 : t.1 = t'.1
  · have h2 : t.2 ≠ t'.2 := fun e => h (Prod.ext h1 e)
    have : (t.2 : ℕ) ≠ t'.2 := fun e => h2 (Fin.ext e)
    unfold srcs srcRect
    exact Rect.unit_disjoint (3 : Fin 5) (by
      rcases Nat.lt_or_gt_of_ne this with hlt | hlt
      · exact Or.inl hlt
      · exact Or.inr hlt)
  · have : (t.1 : ℕ) ≠ t'.1 := fun e => h1 (Fin.ext e)
    unfold srcs srcRect
    exact Rect.unit_disjoint (1 : Fin 5) (by
      rcases Nat.lt_or_gt_of_ne this with hlt | hlt
      · exact Or.inl hlt
      · exact Or.inr hlt)

theorem srcs_cover : Finset.univ.biUnion (fun t => (srcs t).set) = Finset.univ := by
  refine Finset.eq_univ_of_forall fun i => Finset.mem_biUnion.mpr ⟨(i 1, i 3), Finset.mem_univ _, ?_⟩
  unfold srcs srcRect
  refine Rect.mem_set_unit.mpr fun a => ?_
  have hlt := (i a).isLt
  fin_cases a
  · exact ⟨Nat.zero_le _, by simpa using hlt⟩
  · exact ⟨le_rfl, Nat.lt_succ_self _⟩
  · exact ⟨Nat.zero_le _, by simpa using hlt⟩
  · exact ⟨le_rfl, Nat.lt_succ_self _⟩
  · exact ⟨Nat.zero_le _, by simpa using hlt⟩

theorem chns_disjoint (t t' : Fin 8) (h : t ≠ t') : Disjoint (chns t).set (chns t').set := by
  have : (t : ℕ) ≠ t' := fun e => h (Fin.ext e)
  unfold chns planeRect
  exact Rect.unit_disjoint (0 : Fin 3) (by
    rcases Nat.lt_or_gt_of_ne this with hlt | hlt
    · exact Or.inl hlt
    · exact Or.inr hlt)

theorem chns_cover : Finset.univ.biUnion (fun t => (chns t).set) = Finset.univ := by
  refine Finset.eq_univ_of_forall fun i => Finset.mem_biUnion.mpr ⟨i 0, Finset.mem_univ _, ?_⟩
  unfold chns planeRect
  refine Rect.mem_set_unit.mpr fun a => ?_
  have hlt := (i a).isLt
  fin_cases a
  · exact ⟨le_rfl, Nat.lt_succ_self _⟩
  · exact ⟨Nat.zero_le _, by simpa using hlt⟩
  · exact ⟨Nat.zero_le _, by simpa using hlt⟩

section
variable (c : Dev nD) (arg1 : Blk) (arg4 : Blk) (arg5 arg6 : Chn) (arg7 : DmaSems sig S8x2) (X : BlkV F)

/-- The input block's components, all held. -/
def allSrc : sProp 𝕄 :=
  iprop(srcHeld c arg1 X l0 Nat.zero_lt_two ∗ srcHeld c arg1 X l0 Nat.one_lt_two ∗ srcHeld c arg1 X l1 Nat.zero_lt_two ∗ srcHeld c arg1 X l1 Nat.one_lt_two ∗ srcHeld c arg1 X l2 Nat.zero_lt_two ∗ srcHeld c arg1 X l2 Nat.one_lt_two ∗ srcHeld c arg1 X l3 Nat.zero_lt_two ∗ srcHeld c arg1 X l3 Nat.one_lt_two ∗ srcHeld c arg1 X l4 Nat.zero_lt_two ∗ srcHeld c arg1 X l4 Nat.one_lt_two ∗ srcHeld c arg1 X l5 Nat.zero_lt_two ∗ srcHeld c arg1 X l5 Nat.one_lt_two ∗ srcHeld c arg1 X l6 Nat.zero_lt_two ∗ srcHeld c arg1 X l6 Nat.one_lt_two ∗ srcHeld c arg1 X l7 Nat.zero_lt_two ∗ srcHeld c arg1 X l7 Nat.one_lt_two)
/-- A scratch buffer's channels, all held. -/
def allPl (m : Chn) (V : ChnV F) : sProp 𝕄 :=
  iprop(plHeld c m V l0 ∗ plHeld c m V l1 ∗ plHeld c m V l2 ∗ plHeld c m V l3 ∗ plHeld c m V l4 ∗ plHeld c m V l5 ∗ plHeld c m V l6 ∗ plHeld c m V l7)
/-- Every counter at zero. -/
def allIdle : sProp 𝕄 :=
  iprop(idle c arg7 l0 Nat.zero_lt_two ∗ idle c arg7 l0 Nat.one_lt_two ∗ idle c arg7 l1 Nat.zero_lt_two ∗ idle c arg7 l1 Nat.one_lt_two ∗ idle c arg7 l2 Nat.zero_lt_two ∗ idle c arg7 l2 Nat.one_lt_two ∗ idle c arg7 l3 Nat.zero_lt_two ∗ idle c arg7 l3 Nat.one_lt_two ∗ idle c arg7 l4 Nat.zero_lt_two ∗ idle c arg7 l4 Nat.one_lt_two ∗ idle c arg7 l5 Nat.zero_lt_two ∗ idle c arg7 l5 Nat.one_lt_two ∗ idle c arg7 l6 Nat.zero_lt_two ∗ idle c arg7 l6 Nat.one_lt_two ∗ idle c arg7 l7 Nat.zero_lt_two ∗ idle c arg7 l7 Nat.one_lt_two)

theorem src_sep : (BI.bigSep Finset.univ fun t => owns (c : Thread nD τ) (arg1.slice (srcs t) (fun _ => rfl)) fullShare
    (fun j => X ((srcs t).emb j))) = (allSrc c arg1 X : sProp 𝕄) := by
  rw [BI.bigSep_eq_bigSepL_of_eq [(0, 0), (0, 1), (1, 0), (1, 1), (2, 0), (2, 1), (3, 0), (3, 1), (4, 0), (4, 1), (5, 0), (5, 1), (6, 0), (6, 1), (7, 0), (7, 1)] (by decide) (by decide)]
  rfl

theorem pl_sep (m : Chn) (V : ChnV F) : (BI.bigSep Finset.univ fun t => owns (c : Thread nD τ) (m.slice (chns t) (fun _ => rfl)) fullShare
    (fun j => V ((chns t).emb j))) = (allPl c m V : sProp 𝕄) := by
  rw [BI.bigSep_eq_bigSepL_of_eq [0, 1, 2, 3, 4, 5, 6, 7] (by decide) (by decide)]
  rfl

theorem src_cut : owns (c : Thread nD τ) arg1 fullShare X ⊢ (allSrc c arg1 X : sProp 𝕄) :=
  (owns_rects (c : Thread nD τ) arg1 fullShare srcs (fun _ _ => rfl) srcs_disjoint srcs_cover X).trans (by rw [src_sep])
theorem src_join [∀ e, Nonempty (Elt F e)] : (allSrc c arg1 X : sProp 𝕄) ⊢ owns (c : Thread nD τ) arg1 fullShare X :=
  (show (allSrc c arg1 X : sProp 𝕄) ⊢ _ by rw [← src_sep]).trans
    (owns_of_rects (c : Thread nD τ) arg1 fullShare srcs (fun _ _ => rfl) srcs_disjoint srcs_cover X)
theorem pl_cut (m : Chn) (V : ChnV F) : owns (c : Thread nD τ) m fullShare V ⊢ (allPl c m V : sProp 𝕄) :=
  (owns_rects (c : Thread nD τ) m fullShare chns (fun _ _ => rfl) chns_disjoint chns_cover V).trans (by rw [pl_sep])
theorem pl_join [∀ e, Nonempty (Elt F e)] (m : Chn) (V : ChnV F) : (allPl c m V : sProp 𝕄) ⊢ owns (c : Thread nD τ) m fullShare V :=
  (show (allPl c m V : sProp 𝕄) ⊢ _ by rw [← pl_sep]).trans
    (owns_of_rects (c : Thread nD τ) m fullShare chns (fun _ _ => rfl) chns_disjoint chns_cover V)

theorem all_ready : iprop(owns (c : Thread nD τ) arg1 fullShare X ∗ (∃ V, owns (c : Thread nD τ) arg5 fullShare V)
      ∗ (∃ V, owns (c : Thread nD τ) arg6 fullShare V) ∗ allIdle c arg7)
    ⊢ (allReady c arg1 arg5 arg6 arg7 X : sProp 𝕄) := by
  iintro ⟨Hs, ⟨%V5, H5⟩, ⟨%V6, H6⟩, Hi⟩
  ihave Hs := (src_cut c arg1 X) $$ Hs
  ihave H5 := (pl_cut c arg5 V5) $$ H5
  ihave H6 := (pl_cut c arg6 V6) $$ H6
  unfold allSrc allPl allIdle allReady ready
  icases Hs with ⟨S00, S01, S10, S11, S20, S21, S30, S31, S40, S41, S50, S51, S60, S61, S70, S71⟩
  icases H5 with ⟨A0, A1, A2, A3, A4, A5, A6, A7⟩
  icases H6 with ⟨B0, B1, B2, B3, B4, B5, B6, B7⟩
  icases Hi with ⟨I00, I01, I10, I11, I20, I21, I30, I31, I40, I41, I50, I51, I60, I61, I70, I71⟩
  isplitl [S00 S01 A0 B0 I00 I01]
  · isplitl [S00]; · iexact S00
    isplitl [S01]; · iexact S01
    isplitl [A0]; · iexists V5; iexact A0
    isplitl [B0]; · iexists V6; iexact B0
    isplitl [I00]; · iexact I00
    iexact I01
  isplitl [S10 S11 A1 B1 I10 I11]
  · isplitl [S10]; · iexact S10
    isplitl [S11]; · iexact S11
    isplitl [A1]; · iexists V5; iexact A1
    isplitl [B1]; · iexists V6; iexact B1
    isplitl [I10]; · iexact I10
    iexact I11
  isplitl [S20 S21 A2 B2 I20 I21]
  · isplitl [S20]; · iexact S20
    isplitl [S21]; · iexact S21
    isplitl [A2]; · iexists V5; iexact A2
    isplitl [B2]; · iexists V6; iexact B2
    isplitl [I20]; · iexact I20
    iexact I21
  isplitl [S30 S31 A3 B3 I30 I31]
  · isplitl [S30]; · iexact S30
    isplitl [S31]; · iexact S31
    isplitl [A3]; · iexists V5; iexact A3
    isplitl [B3]; · iexists V6; iexact B3
    isplitl [I30]; · iexact I30
    iexact I31
  isplitl [S40 S41 A4 B4 I40 I41]
  · isplitl [S40]; · iexact S40
    isplitl [S41]; · iexact S41
    isplitl [A4]; · iexists V5; iexact A4
    isplitl [B4]; · iexists V6; iexact B4
    isplitl [I40]; · iexact I40
    iexact I41
  isplitl [S50 S51 A5 B5 I50 I51]
  · isplitl [S50]; · iexact S50
    isplitl [S51]; · iexact S51
    isplitl [A5]; · iexists V5; iexact A5
    isplitl [B5]; · iexists V6; iexact B5
    isplitl [I50]; · iexact I50
    iexact I51
  isplitl [S60 S61 A6 B6 I60 I61]
  · isplitl [S60]; · iexact S60
    isplitl [S61]; · iexact S61
    isplitl [A6]; · iexists V5; iexact A6
    isplitl [B6]; · iexists V6; iexact B6
    isplitl [I60]; · iexact I60
    iexact I61
  isplitl [S70]; · iexact S70
  isplitl [S71]; · iexact S71
  isplitl [A7]; · iexists V5; iexact A7
  isplitl [B7]; · iexists V6; iexact B7
  isplitl [I70]; · iexact I70
  iexact I71

theorem all_rest [∀ e, Nonempty (Elt F e)] : iprop(allPlanes c arg5 arg6 X ∗ allRested c arg1 arg7 X)
    ⊢ (iprop(owns (c : Thread nD τ) arg1 fullShare X ∗ owns (c : Thread nD τ) arg5 fullShare (plane X 0)
      ∗ owns (c : Thread nD τ) arg6 fullShare (plane X 1) ∗ allIdle c arg7) : sProp 𝕄) := by
  unfold allPlanes allRested planes rested
  iintro ⟨⟨⟨A0, B0⟩, ⟨A1, B1⟩, ⟨A2, B2⟩, ⟨A3, B3⟩, ⟨A4, B4⟩, ⟨A5, B5⟩, ⟨A6, B6⟩, ⟨A7, B7⟩⟩, ⟨⟨S00, S01, I00, I01⟩, ⟨S10, S11, I10, I11⟩, ⟨S20, S21, I20, I21⟩, ⟨S30, S31, I30, I31⟩, ⟨S40, S41, I40, I41⟩, ⟨S50, S51, I50, I51⟩, ⟨S60, S61, I60, I61⟩, ⟨S70, S71, I70, I71⟩⟩⟩
  isplitl [S00 S01 S10 S11 S20 S21 S30 S31 S40 S41 S50 S51 S60 S61 S70 S71]
  · iapply (src_join c arg1 X)
    unfold allSrc
    isplitl [S00]; · iexact S00
    isplitl [S01]; · iexact S01
    isplitl [S10]; · iexact S10
    isplitl [S11]; · iexact S11
    isplitl [S20]; · iexact S20
    isplitl [S21]; · iexact S21
    isplitl [S30]; · iexact S30
    isplitl [S31]; · iexact S31
    isplitl [S40]; · iexact S40
    isplitl [S41]; · iexact S41
    isplitl [S50]; · iexact S50
    isplitl [S51]; · iexact S51
    isplitl [S60]; · iexact S60
    isplitl [S61]; · iexact S61
    isplitl [S70]; · iexact S70
    iexact S71
  isplitl [A0 A1 A2 A3 A4 A5 A6 A7]
  · iapply (pl_join c arg5 (plane X 0))
    unfold allPl
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · iapply (pl_join c arg6 (plane X 1))
    unfold allPl
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  unfold allIdle
  isplitl [I00]; · iexact I00
  isplitl [I01]; · iexact I01
  isplitl [I10]; · iexact I10
  isplitl [I11]; · iexact I11
  isplitl [I20]; · iexact I20
  isplitl [I21]; · iexact I21
  isplitl [I30]; · iexact I30
  isplitl [I31]; · iexact I31
  isplitl [I40]; · iexact I40
  isplitl [I41]; · iexact I41
  isplitl [I50]; · iexact I50
  isplitl [I51]; · iexact I51
  isplitl [I60]; · iexact I60
  isplitl [I61]; · iexact I61
  isplitl [I70]; · iexact I70
  iexact I71

end

end Cert.KernelIdeal.Whole

end
-- ==== Proof.KernelIdeal.Frame.lean ====
/-
  The frame of the idealized program, and what its result holds: the pipeline's proof data, the body's obligation, the run.
-/
module

public import proofs.«01_k».proof.Proof.KernelIdeal.Whole
public import proofs.«01_k».proof.Proof.Gen.KernelIdeal.Frame

@[expose] public section

set_option maxRecDepth 16384

noncomputable section

namespace Cert.KernelIdeal.Framed

open Cert.KernelIdeal Cert.KernelIdeal.Gen Cert.KernelIdeal.Plan Cert.KernelIdeal.Values Cert.KernelIdeal.Moves Cert.KernelIdeal.Triple Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (Pipeline.UD sig nD τ) ℕ

/-- The counters of the body's own transfers. -/
abbrev osem : Fin 16 → SemLoc sig := fun j => SemLoc.dma ⟨8 + j.val, by have := j.isLt; change _ < 24; omega⟩
theorem ownSemFacts : Pipeline.OwnSemFacts spec0 osem := by decide

theorem ownSems_eq (c : Dev nD) :
    (Pipeline.ownSems0 (Ix := Unit) (Name := ℕ) (U := Pipeline.UD sig nD τ) (Lvl := ℕ) (Val := Elt F) (τ := τ) osem c : sProp 𝕄)
      = allIdle c cc0_scratch2 := by
  rw [Pipeline.ownSems0_eq_of_list c osem [0, 1, 2, 3, 4, 5, 6, 7, 8, 9, 10, 11, 12, 13, 14, 15] (by decide) (by decide)]
  rfl

section
variable (m : (ℓ : Loc nD τ sig) → Buf (Elt F) ℓ) (ρ : Dev nD → PrngReg)

abbrev st0 (t : Fin cfg0.N) : Blk := win0_0.stage (cfg0.slots t 0)
abbrev st1 (t : Fin cfg0.N) : Par := win0_1.stage (cfg0.slots t 1)
abbrev st2 (t : Fin cfg0.N) : Par := win0_2.stage (cfg0.slots t 2)
abbrev st3 (t : Fin cfg0.N) : Blk := win0_3.stage (cfg0.slots t 3)
abbrev buf5 : Chn := Memref.whole cc0_scratch0
abbrev buf6 : Chn := Memref.whole cc0_scratch1

/-- The result's block at a point: what the body computes of the inputs' blocks there. -/
def outAt (c : Dev nD) (t : Fin cfg0.N) : BlkV F := outBlk (iblk m c 0 t) (iblk m c 1 t) (iblk m c 2 t)

/-- The proof data: the arrays as the region finds them, each input's block left in place, the result's block computed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦD osem spec0 ∅ (V m) c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by show iblk m c 0 t = _; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by show iblk m c 1 t = _; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by show iblk m c 2 t = _; unfold Dat.blockOf iblk; rw [A_eq]; try rfl) t d).trans
    (by unfold Dat.fetched Dat.blockOf iblk; rw [A_eq]; try rfl)

/-- What is held between points: the two scratch buffers, the random register, the counters at zero. -/
theorem held_eq (c : Dev nD) : (Pipeline.ΦD osem spec0 ∅ (V m) c : sProp 𝕄)
    = iprop(iprop((∃ d, owns (c : Thread nD τ) buf5 fullShare d) ∗ (∃ d, owns (c : Thread nD τ) buf6 fullShare d))
        ∗ (∃ r, prngReg c r) ∗ allIdle c cc0_scratch2 ∗ emp) := by
  rw [Pipeline.ΦD_eq, scopedRest0_eq, ownSems_eq, BI.bigSep_empty]
  simp only [buf5, buf6, owns_whole]
  try rfl

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem credit5 {ch : ℕ} (hc : ch < 8) : 0 < (dstOf buf5 hc).view.dmaCredit := by
  show 0 < (dstOf buf5 l0).view.dmaCredit
  decide
theorem credit6 {ch : ℕ} (hc : ch < 8) : 0 < (dstOf buf6 hc).view.dmaCredit := by
  show 0 < (dstOf buf6 l0).view.dmaCredit
  decide

theorem sound_body [∀ e, Nonempty (Elt F e)] (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  rw [show (dats m 0 c).after 0 t = iblk m c 0 t from rfl, show (dats m 0 c).after 1 t = iblk m c 1 t from rfl,
    show (dats m 0 c).after 2 t = iblk m c 2 t from rfl, show (dats m 0 c).after 3 t = outAt m c t from rfl]
  rw [show (dats m 0 c).Φ t.succ = (dats m 0 c).Φ t.castSucc from rfl,
    show (dats m 0 c).Φ t.castSucc = Pipeline.ΦD osem spec0 ∅ (V m) c from rfl, held_eq]
  unfold Dat.owesAt Pipeline.owesWithin
  rw [show (dats m 0 c).owed t.castSucc = 0 from rfl, show (dats m 0 c).owed t.succ = 0 from rfl]
  iintro ⟨⟨⟨H5, H6⟩, Hg, Hi, He⟩, ⟨%W, -, HW⟩, ⟨%d0, H0⟩, ⟨%d1, H1⟩, ⟨%d2, H2⟩, ⟨%d3, H3⟩⟩
  rw [before0, before1, before2]
  ihave HR := (all_ready c (st0 t) buf5 buf6 cc0_scratch2 (iblk m c 0 t)) $$ [H0 H5 H6 Hi]
  · isplitl [H0]; · iexact H0
    isplitl [H5]; · iexact H5
    isplitl [H6]; · iexact H6
    iexact Hi
  iapply (plan_run c (st0 t) (st3 t) buf5 buf6 cc0_scratch2 (iblk m c 0 t) (st1 t) (st2 t) (iblk m c 1 t) (iblk m c 2 t)
    credit5 credit6) $$ [HR H1 H2 H3 HW]
  · isplitl [HR]; · iexact HR
    isplitl [H1]; · iexact H1
    isplitl [H2]; · iexact H2
    isplitl [H3]; · iexists _; iexact H3
    unfold waits; iexists W; iexact HW
  iintro ⟨Hp, Hr, H1, H2, H3, HW⟩
  ihave HE := (all_rest c (st0 t) buf5 buf6 cc0_scratch2 (iblk m c 0 t)) $$ [Hp Hr]
  · isplitl [Hp]; · iexact Hp
    iexact Hr
  icases HE with ⟨H0, H5, H6, Hi⟩
  isplitl [H5 H6 Hg Hi He]
  · isplitl [H5 H6]
    · isplitl [H5]; · iexists _; iexact H5
      iexists _; iexact H6
    isplitl [Hg]; · iexact Hg
    isplitl [Hi]; · iexact Hi
    iexact He
  isplitl [HW]
  · unfold waits
    icases HW with ⟨%W', HW⟩
    iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation [∀ e, Nonempty (Elt F e)] (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- The run: it ends with every array at what the body left, every other buffer as the host lines leave it, every counter at zero. -/
theorem run_main [∀ e, Nonempty (Elt F e)] : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none ownSemFacts ∅
    (Finset.empty_subset _) m ρ main
    (hbody := fun c => (body_obligation m c).loose) (hshare := fun c => (dats m 0 c).share_full fun _ => rfl)
    (howed := fun _ _ => rfl) (V₀ := V0 m) (opss := [hostOps1])
    (hsub := by rw [Pipeline.tailRefsBut_empty]; exact sfx_sub) (hfresh := sfx_fresh) (hkeep := sfx_keeps)
    (hmain := hmain m) (hA := A_eq m) (hin := fun _ => .rfl) (hout := fun _ => .rfl)

/-- No host line writes an argument: it ends as launched. -/
theorem tail_arg (c : Dev nD) (b : Ref sig .tc) (h1 : (hostOps1 : List (HloOp τ sig (Elt F))).Forall fun op => Proc.devRef .tc b ∉ op.writes)
    (h2 : ∀ w, Pipeline.arrRef spec0 w ≠ b) (h3 : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by simpa using h1)),
    Pipeline.withArrays_of_ne _ c (V0 m c) _ b h2]
  exact h3

theorem keep_arg0 : (hostOps1 : List (HloOp τ sig (Elt F))).Forall fun op => Proc.devRef .tc main_arg0 ∉ op.writes := by
  simp only [hostOps1, List.Forall, StableHlo.unary_writes, StableHlo.reshape_writes, Finset.mem_singleton]
  repeat' apply And.intro
  all_goals exact StableHlo.devRef_ne_of_ne (by decide)
theorem keep_arg1 : (hostOps1 : List (HloOp τ sig (Elt F))).Forall fun op => Proc.devRef .tc main_arg1 ∉ op.writes := by
  simp only [hostOps1, List.Forall, StableHlo.unary_writes, StableHlo.reshape_writes, Finset.mem_singleton]
  repeat' apply And.intro
  all_goals exact StableHlo.devRef_ne_of_ne (by decide)
theorem keep_arg2 : (hostOps1 : List (HloOp τ sig (Elt F))).Forall fun op => Proc.devRef .tc main_arg2 ∉ op.writes := by
  simp only [hostOps1, List.Forall, StableHlo.unary_writes, StableHlo.reshape_writes, Finset.mem_singleton]
  repeat' apply And.intro
  all_goals exact StableHlo.devRef_ne_of_ne (by decide)

/-- What the run leaves: the arguments as launched, the result as the host lines leave it, every counter at zero. -/
theorem run_held [∀ e, Nonempty (Elt F e)] : θ_run defs (onTc (τ := τ) (main (F := F))) ⟨m, fun _ => 0, ρ⟩ (fun r =>
    (∀ c : Dev nD, r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c =>
    ⟨(h.1 c).2 main_v8 (Pipeline.mem_restRefs_of main_v8 (by decide) (by decide)),
      ((h.1 c).2 main_arg0 (Pipeline.mem_restRefs_of main_arg0 (by decide) (by decide))).trans
        (tail_arg m c main_arg0 keep_arg0 (by exact (by decide : ∀ w, Pipeline.arrRef spec0 w ≠ main_arg0)) (V_main_arg0 m c)),
      ((h.1 c).2 main_arg1 (Pipeline.mem_restRefs_of main_arg1 (by decide) (by decide))).trans
        (tail_arg m c main_arg1 keep_arg1 (by exact (by decide : ∀ w, Pipeline.arrRef spec0 w ≠ main_arg1)) (V_main_arg1 m c)),
      ((h.1 c).2 main_arg2 (Pipeline.mem_restRefs_of main_arg2 (by decide) (by decide))).trans
        (tail_arg m c main_arg2 keep_arg2 (by exact (by decide : ∀ w, Pipeline.arrRef spec0 w ≠ main_arg2)) (V_main_arg2 m c))⟩, h.2⟩)
    (run_main m ρ)

/-- The frame. -/
theorem frame_run [∀ e, Nonempty (Elt F e)] : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2, h.2⟩) (run_held m ρ)

end

end Cert.KernelIdeal.Framed

end
-- ==== Proof.Frames.lean ====
/-
  The frames, and what the idealization states.
-/
module

public import proofs.«01_k».proof.Defs
public import proofs.«01_k».proof.Proof.Kernel.Frame
public import proofs.«01_k».proof.Proof.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Frames

open Idealize.ShloMosaic Idealize.SL.Sem

/-- The kernel's frame. -/
theorem kernel : Cert.quiescent_Kernel := fun m g _ => Cert.Kernel.Framed.frame_run m g
/-- The idealized kernel's frame. -/
theorem ideal : Cert.quiescent_KernelIdeal := fun m g _ => Cert.KernelIdeal.Framed.frame_run m g
/-- The same, from finite arguments. -/
theorem idealPre : Cert.quiescent_KernelIdeal_pre_finite := fun m g _ => Cert.KernelIdeal.Framed.frame_run m g

/-- The reference's frame: it declares no semaphore. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
/-- The same, from finite arguments. -/
theorem referencePre : Cert.quiescent_ReferenceIdeal_pre_finite := fun m g _ => reference m g trivial

/-- The named constants are what the idealization says. -/
theorem preserves : Cert.preserves_Kernel_KernelIdeal :=
  ⟨IdealRules.named_const.statement _ _ _ _ _ rfl, IdealRules.named_const.statement _ _ _ _ _ rfl⟩

end Cert.Frames

end
-- ==== Proof.Equation.Held.lean ====
/-
  The kernel program's result at an entry: the arrays that the region finds, its blocks at coordinates, and the array it
  leaves, read through the host lines around it.
-/
module

public import proofs.«01_k».proof.Proof.KernelIdeal.Frame
public import Idealize.ShloMosaic.Lib.Claim
public import Idealize.ShloMosaic.Lib.Pipeline.ValueKit
public import Idealize.ShloMosaic.Lib.ValueIdxCore
public import Idealize.ShloMosaic.Lib.ValueLayout

@[expose] public section

set_option maxRecDepth 16384

noncomputable section

namespace Cert.KernelIdeal.Held

open Cert.KernelIdeal Cert.KernelIdeal.Gen Cert.KernelIdeal.Plan Cert.KernelIdeal.Values Cert.KernelIdeal.Framed
open Idealize.ShloMosaic hiding ix0 ix1 ix2 ix3 ix4 ix5
open Idealize.ShloMosaic.TcCoe Idealize.ShloMosaic.Tactic Idealize.ShloMosaic.ValueIdx Idealize.ShloMosaic.Pipeline
open Idealize.SL.Sem

variable {F : FTy → Type} [FloatOps F] [Named F]
variable (m : (ℓ : Loc nD τ sig) → Buf (Elt F) ℓ) (c : Dev nD)

/-- The number of a group's channel. -/
abbrev chan (g : Fin 32) (k : Fin 8) : Fin 256 := ⟨8 * g.val + k.val, by have := g.isLt; have := k.isLt; omega⟩

/-- The point that works on a group. -/
abbrev pt (g : Fin 32) : Fin cfg0.N := g

/-- The region's data: the argument, its last two directions exchanged, cut into groups. -/
theorem entry_x : V m c main_v1 = shapeCast S32x8x384x2x384 (transpose S256x384x2x384 [0, 1, 3, 2]
    (m ((c : Thread nD τ).loc main_arg0)) transposes_S256x384x384x2_S256x384x2x384_0_1_3_2) shapeCasts_S256x384x2x384_S32x8x384x2x384 := by
  entry_read
  rfl

/-- The input's array at an entry. -/
theorem x_at (g : Fin 32) (k : Fin 8) (h : Fin 384) (d : Fin 2) (w : Fin 384) :
    V m c main_v1 (ix5 g k h d w) = m ((c : Thread nD τ).loc main_arg0) (ix4 (chan g k) h w d) := by
  rw [entry_x]
  refine (shapeCast_apply _ _ _ (ix4 (chan g k) h d w) ?_).trans ?_
  · rw [Shape.rowMajor_val_four, Shape.rowMajor_val_five]
    show (((8 * g.val + k.val) * 384 + h.val) * 2 + d.val) * 384 + w.val = (((g.val * 8 + k.val) * 384 + h.val) * 2 + d.val) * 384 + w.val
    omega
  · exact transpose_apply _ _ _ _ _ (by intro a; fin_cases a <;> rfl)

/-- The region's scales: each spread over a line. -/
theorem entry_s : V m c main_v3 = broadcastInDim S32x8x384 ![0, 1, 2] bcast_S32x8x1_S32x8x384_0_1_2
    (shapeCast S32x8x1 (m ((c : Thread nD τ).loc main_arg1)) shapeCasts_S256x1x1x1_S32x8x1) := by
  entry_read
  rfl

/-- The region's biases: each spread over a line. -/
theorem entry_b : V m c main_v5 = broadcastInDim S32x8x384 ![0, 1, 2] bcast_S32x8x1_S32x8x384_0_1_2
    (shapeCast S32x8x1 (m ((c : Thread nD τ).loc main_arg2)) shapeCasts_S256x1x1x1_S32x8x1) := by
  entry_read
  rfl

/-- A channel's parameter spread over a line, at an entry. -/
theorem par_spread (x : S256x1x1x1.Idx → Elt F .f32) (g : Fin 32) (k : Fin 8) (w : Fin 384) :
    broadcastInDim S32x8x384 ![0, 1, 2] bcast_S32x8x1_S32x8x384_0_1_2 (shapeCast S32x8x1 x shapeCasts_S256x1x1x1_S32x8x1) (ix3 g k w)
      = x (ix4 (chan g k) (0 : Fin 1) (0 : Fin 1) (0 : Fin 1)) := by
  refine (broadcastInDim_apply _ _ _ _ (ix3 g k (0 : Fin 1)) (by intro a; fin_cases a <;> rfl)).trans ?_
  refine shapeCast_apply _ _ _ _ ?_
  rw [Shape.rowMajor_val_three, Shape.rowMajor_val_four]
  show (((8 * g.val + k.val) * 1 + 0) * 1 + 0) * 1 + 0 = (g.val * 8 + k.val) * 1 + 0
  omega

/-- Which block of each array a point works on: its own group's, whole in every other direction. -/
theorem at0 : ∀ g : Fin cfg0.N, win0_0.index g = ![g.val, 0, 0, 0, 0] := by decide +kernel
/-- The block of the scales. -/
theorem at1 : ∀ g : Fin cfg0.N, win0_1.index g = ![g.val, 0, 0] := by decide +kernel
/-- The block of the biases. -/
theorem at2 : ∀ g : Fin cfg0.N, win0_2.index g = ![g.val, 0, 0] := by decide +kernel
/-- The block of the result. -/
theorem at3 : ∀ g : Fin cfg0.N, win0_3.index g = ![g.val, 0, 0, 0, 0] := by decide +kernel

/-- A group's block of the data lies at the group. -/
theorem emb0 (g : Fin 32) (k : Fin 8) (h : Fin 384) (d : Fin 2) (w : Fin 384) :
    ((cfg0.win 0).blk (pt g)).view.emb (ix5 (0 : Fin 1) k h d w) = (ix5 g k h d w : S32x8x384x2x384.Idx) := by
  funext a
  refine Fin.ext ?_
  have e := at0 (pt g)
  fin_cases a <;> blk_simp
  all_goals rw [e]
  · rfl
  · show 0 * 8 + k.val = k.val; omega
  · show 0 * 384 + h.val = h.val; omega
  · show 0 * 2 + d.val = d.val; omega
  · show 0 * 384 + w.val = w.val; omega

/-- A group's block of the scales lies at the group. -/
theorem emb1 (g : Fin 32) (k : Fin 8) (w : Fin 384) :
    ((cfg0.win 1).blk (pt g)).view.emb (ix3 (0 : Fin 1) k w) = (ix3 g k w : S32x8x384.Idx) := by
  funext a
  refine Fin.ext ?_
  have e := at1 (pt g)
  fin_cases a <;> blk_simp
  all_goals rw [e]
  · rfl
  · show 0 * 8 + k.val = k.val; omega
  · show 0 * 384 + w.val = w.val; omega

/-- A group's block of the biases lies at the group. -/
theorem emb2 (g : Fin 32) (k : Fin 8) (w : Fin 384) :
    ((cfg0.win 2).blk (pt g)).view.emb (ix3 (0 : Fin 1) k w) = (ix3 g k w : S32x8x384.Idx) := by
  funext a
  refine Fin.ext ?_
  have e := at2 (pt g)
  fin_cases a <;> blk_simp
  all_goals rw [e]
  · rfl
  · show 0 * 8 + k.val = k.val; omega
  · show 0 * 384 + w.val = w.val; omega

/-- A group's block of the result lies at the group. -/
theorem emb3 (g : Fin 32) (k : Fin 8) (h : Fin 384) (d : Fin 2) (w : Fin 384) :
    ((cfg0.win 3).blk (pt g)).view.emb (ix5 (0 : Fin 1) k h d w) = (ix5 g k h d w : S32x8x384x2x384.Idx) := by
  funext a
  refine Fin.ext ?_
  have e := at3 (pt g)
  fin_cases a <;> blk_simp
  all_goals rw [e]
  · rfl
  · show 0 * 8 + k.val = k.val; omega
  · show 0 * 384 + h.val = h.val; omega
  · show 0 * 2 + d.val = d.val; omega
  · show 0 * 384 + w.val = w.val; omega

/-- A group's block of the data, at an entry. -/
theorem blk0_at (g : Fin 32) (k : Fin 8) (h : Fin 384) (d : Fin 2) (w : Fin 384) :
    iblk m c 0 (pt g) (ix5 (0 : Fin 1) k h d w) = m ((c : Thread nD τ).loc main_arg0) (ix4 (chan g k) h w d) := by
  rw [← x_at m c g k h d w, ← emb0 g k h d w]
  rfl

/-- A group's block of the scales, at an entry. -/
theorem blk1_at (g : Fin 32) (k : Fin 8) (w : Fin 384) :
    iblk m c 1 (pt g) (ix3 (0 : Fin 1) k w) = m ((c : Thread nD τ).loc main_arg1) (ix4 (chan g k) (0 : Fin 1) (0 : Fin 1) (0 : Fin 1)) := by
  rw [← par_spread (m ((c : Thread nD τ).loc main_arg1)) g k w, ← entry_s m c, ← emb1 g k w]
  rfl

/-- A group's block of the biases, at an entry. -/
theorem blk2_at (g : Fin 32) (k : Fin 8) (w : Fin 384) :
    iblk m c 2 (pt g) (ix3 (0 : Fin 1) k w) = m ((c : Thread nD τ).loc main_arg2) (ix4 (chan g k) (0 : Fin 1) (0 : Fin 1) (0 : Fin 1)) := by
  rw [← par_spread (m ((c : Thread nD τ).loc main_arg2)) g k w, ← entry_b m c, ← emb2 g k w]
  rfl

/-- The result as the region leaves it: block after block, what the body computes. -/
def left : S32x8x384x2x384.Idx → Elt F .f32 := fun i =>
  outAt m c (pt (i 0)) (ix5 (0 : Fin 1) (i 1) (i 2) (i 3) (i 4))

/-- The blocks cover the result, so the region leaves exactly it. -/
theorem left_eq : (dats m 0 c).arrAt 3 cfg0.N = left m c := by
  refine (dats m 0 c).arrAt_eq_of_covers 3 (left m c) (by decide +kernel) fun t hf y => ?_
  obtain ⟨z, k, h, d, w, rfl⟩ : ∃ (z : Fin 1) (k : Fin 8) (h : Fin 384) (d : Fin 2) (w : Fin 384), y = ix5 z k h d w :=
    ⟨y 0, y 1, y 2, y 3, y 4, ValueIdx.eq_ix5 y⟩
  obtain rfl : z = 0 := Subsingleton.elim _ _
  refine Eq.trans ?_ (congrArg (left m c) (emb3 t k h d w)).symm
  rfl

/-- The program's result at an entry. -/
theorem result_at (g : Fin 32) (k : Fin 8) (h w : Fin 384) (d : Fin 2) :
    Pipeline.afterTail₀ cfgs (dats m) 0 (V0 m) [hostOps1] c main_v8 (ix4 (chan g k) h w d)
      = outAt m c (pt g) (ix5 (0 : Fin 1) k h d w) := by
  have e : Pipeline.afterTail₀ cfgs (dats m) 0 (V0 m) [hostOps1] c main_v8
      = transpose S256x384x384x2 [0, 1, 3, 2] (shapeCast S256x384x2x384 (left m c) shapeCasts_S32x8x384x2x384_S256x384x2x384)
          transposes_S256x384x2x384_S256x384x384x2_0_1_3_2 := by
    rw [← left_eq]
    unfold Pipeline.afterTail₀
    rw [show ([hostOps1] : List (List (HloOp τ sig (Elt F)))).flatten = hostOps1 from List.append_nil _]
    have hA : (Pipeline.withArrays (cfgs 0).spec c (V0 m c) fun w => (dats m 0 c).arrAt w (cfgs 0).N) (Proc.devRef .tc main_v6)
        = (dats m 0 c).arrAt 3 cfg0.N :=
      Pipeline.withArrays_arr spec0 (by decide) c (V0 m c) (fun w => (dats m 0 c).arrAt w cfg0.N) 3
    rw [← hA]
    unfold hostOps1
    after_results
    rfl
  rw [e]
  refine (transpose_apply _ _ _ _ (ix4 (chan g k) h d w) (by intro b; fin_cases b <;> rfl)).trans ?_
  refine (shapeCast_apply _ _ _ (ix5 g k h d w) ?_).trans rfl
  rw [Shape.rowMajor_val_five, Shape.rowMajor_val_four]
  show (((g.val * 8 + k.val) * 384 + h.val) * 2 + d.val) * 384 + w.val = ((((8 * g.val + k.val)) * 384 + h.val) * 2 + d.val) * 384 + w.val
  omega

end Cert.KernelIdeal.Held
-- ==== Proof.Equation.Whiten.lean ====
/- The inverse square root of a symmetric two by two matrix over the reals, along its eigenvectors and in closed form. -/
module

public import Mathlib.Analysis.SpecialFunctions.Pow.Real
public import Mathlib.Algebra.Order.BigOperators.Ring.Finset
public import Mathlib.Tactic.Linarith
public import Mathlib.Tactic.FieldSimp
public import Mathlib.Tactic.LinearCombination
public import Mathlib.Tactic.Positivity
public import Mathlib.Tactic.GCongr

@[expose] public section

noncomputable section

namespace Cert.Whiten

/-- The ratio of the diagonal's difference to twice the entry off the diagonal. -/
def tau (a b c : ℝ) : ℝ := (c - a) / (2 * b)

/-- The tangent of the rotation that diagonalizes the matrix. -/
def tng (a b c : ℝ) : ℝ :=
  if b = 0 then 0 else (if tau a b c < 0 then -1 else 1) / (|tau a b c| + √(1 + tau a b c * tau a b c))

/-- The rotation's cosine and sine. -/
def cs (a b c : ℝ) : ℝ := 1 / √(1 + tng a b c * tng a b c)
/-- The rotation's sine. -/
def sn (a b c : ℝ) : ℝ := tng a b c * cs a b c

/-- The denominator of the tangent is positive. -/
theorem root_pos (t : ℝ) : 0 < |t| + √(1 + t * t) := by
  have h := Real.sqrt_pos.mpr (show (0 : ℝ) < 1 + t * t by nlinarith [mul_self_nonneg t])
  have := abs_nonneg t
  linarith

/-- The tangent solves the rotation's quadratic equation. -/
theorem tng_eq (a b c : ℝ) : b * (tng a b c * tng a b c) + (c - a) * tng a b c - b = 0 := by
  unfold tng
  by_cases hb : b = 0
  · simp [hb]
  rw [if_neg hb]
  have hτ : (c - a) = 2 * tau a b c * b := by unfold tau; field_simp
  rw [hτ]
  generalize tau a b c = t
  have hp := root_pos t
  have hr : √(1 + t * t) * √(1 + t * t) = 1 + t * t := Real.mul_self_sqrt (by nlinarith [mul_self_nonneg t])
  generalize √(1 + t * t) = r at hp hr
  split_ifs with ht
  · rw [abs_of_neg ht] at hp ⊢
    have hne : -t + r ≠ 0 := hp.ne'
    have hq : -1 / (-t + r) * (-1 / (-t + r)) + 2 * t * (-1 / (-t + r)) - 1 = 0 := by
      rw [eq_comm]; field_simp; linear_combination hr
    linear_combination b * hq
  · rw [abs_of_nonneg (not_lt.mp ht)] at hp ⊢
    have hne : t + r ≠ 0 := hp.ne'
    have hq : 1 / (t + r) * (1 / (t + r)) + 2 * t * (1 / (t + r)) - 1 = 0 := by
      rw [eq_comm]; field_simp; linear_combination hr
    linear_combination b * hq

/-- The cosine's and the sine's squares add up to one. -/
theorem cs_sn (a b c : ℝ) : cs a b c * cs a b c * (1 + tng a b c * tng a b c) = 1 := by
  unfold cs
  have h : (0 : ℝ) < 1 + tng a b c * tng a b c := by nlinarith [mul_self_nonneg (tng a b c)]
  have hr : √(1 + tng a b c * tng a b c) * √(1 + tng a b c * tng a b c) = 1 + tng a b c * tng a b c := Real.mul_self_sqrt h.le
  have hne := (Real.sqrt_pos.mpr h).ne'
  rw [div_mul_div_comm, hr, one_mul, one_div, inv_mul_cancel₀ h.ne']

section
variable (a b c e : ℝ)

/-- The shifted eigenvalues. -/
def l1 : ℝ := a - tng a b c * b + e
/-- The second shifted eigenvalue. -/
def l2 : ℝ := c + tng a b c * b + e
/-- The shifted determinant. -/
def det : ℝ := (a + e) * (c + e) - b * b

/-- The product of the eigenvalues is the determinant. -/
theorem l1_mul_l2 : l1 a b c e * l2 a b c e = det a b c e := by
  unfold l1 l2 det
  linear_combination (-b) * tng_eq a b c

variable (ha : 0 ≤ a) (hc : 0 ≤ c) (hd : b * b ≤ a * c) (he : 0 < e)
include ha hc hd he

/-- The determinant is at least the square of the shift. -/
theorem sq_le_det : e * e ≤ det a b c e := by
  unfold det
  nlinarith [mul_nonneg ha he.le, mul_nonneg hc he.le]

/-- The determinant is positive. -/
theorem det_pos : 0 < det a b c e := lt_of_lt_of_le (mul_pos he he) (sq_le_det a b c e ha hc hd he)

/-- The first eigenvalue is positive. -/
theorem l1_pos : 0 < l1 a b c e := by
  have h := det_pos a b c e ha hc hd he
  rw [← l1_mul_l2] at h
  rcases pos_and_pos_or_neg_and_neg_of_mul_pos h with h | h
  · exact h.1
  · exfalso
    have : l1 a b c e + l2 a b c e = a + c + 2 * e := by unfold l1 l2; ring
    linarith [h.1, h.2]

/-- The second eigenvalue is positive. -/
theorem l2_pos : 0 < l2 a b c e := by
  have h := det_pos a b c e ha hc hd he
  rw [← l1_mul_l2] at h
  exact (pos_iff_pos_of_mul_pos h).mp (l1_pos a b c e ha hc hd he)

/-- The determinant's root, the trace's root and the common factor of the closed form. -/
def rt : ℝ := √(det a b c e)
/-- The common factor of the closed form. -/
def iv : ℝ := (√(a + e + (c + e) + 2 * rt a b c e))⁻¹ / rt a b c e

omit ha hc hd he in
/-- The determinant's root, unfolded. -/
theorem rt_def : rt a b c e = √(det a b c e) := rfl

/-- The determinant's root is the product of the eigenvalues' roots. -/
theorem rt_eq : rt a b c e = √(l1 a b c e) * √(l2 a b c e) := by
  rw [rt, ← l1_mul_l2, Real.sqrt_mul (l1_pos a b c e ha hc hd he).le]

/-- The determinant's root is positive. -/
theorem rt_pos : 0 < rt a b c e := Real.sqrt_pos.mpr (det_pos a b c e ha hc hd he)

/-- The quantity under the trace root is positive. -/
theorem tr_pos : 0 < a + e + (c + e) + 2 * rt a b c e := by
  have := rt_pos a b c e ha hc hd he
  linarith

/-- The trace root is the sum of the eigenvalues' roots. -/
theorem tr_eq : √(a + e + (c + e) + 2 * rt a b c e) = √(l1 a b c e) + √(l2 a b c e) := by
  rw [rt_eq a b c e ha hc hd he]
  have h1 := Real.mul_self_sqrt (l1_pos a b c e ha hc hd he).le
  have h2 := Real.mul_self_sqrt (l2_pos a b c e ha hc hd he).le
  have hs : a + e + (c + e) = l1 a b c e + l2 a b c e := by unfold l1 l2; ring
  have : a + e + (c + e) + 2 * (√(l1 a b c e) * √(l2 a b c e)) = (√(l1 a b c e) + √(l2 a b c e)) ^ 2 := by
    rw [hs]; linear_combination -h1 - h2
  rw [this, Real.sqrt_sq (by positivity)]

/-- The closed form's entries are those along the eigenvectors. -/
theorem whiten00 : cs a b c * √(1 / l1 a b c e) * cs a b c + sn a b c * √(1 / l2 a b c e) * sn a b c
    = (c + e + rt a b c e) * iv a b c e := by
  unfold iv
  rw [tr_eq a b c e ha hc hd he, rt_eq a b c e ha hc hd he]
  have h1 := Real.mul_self_sqrt (l1_pos a b c e ha hc hd he).le
  have h2 := Real.mul_self_sqrt (l2_pos a b c e ha hc hd he).le
  have p1 := Real.sqrt_pos.mpr (l1_pos a b c e ha hc hd he)
  have p2 := Real.sqrt_pos.mpr (l2_pos a b c e ha hc hd he)
  have hcs := cs_sn a b c
  have ht := tng_eq a b c
  rw [Real.sqrt_div zero_le_one, Real.sqrt_div zero_le_one, Real.sqrt_one]
  unfold sn
  have e1 : √(l1 a b c e) * √(l1 a b c e) = a - tng a b c * b + e := h1
  have e2 : √(l2 a b c e) * √(l2 a b c e) = c + tng a b c * b + e := h2
  generalize √(l1 a b c e) = P at *
  generalize √(l2 a b c e) = Q at *
  generalize cs a b c = k at *
  generalize tng a b c = t at *
  have hC : c + e = k * k * (Q * Q) + t * k * (t * k) * (P * P) := by
    rw [e1, e2]
    linear_combination (-(c + e)) * hcs + k * k * t * ht
  rw [hC]
  have hk : t * k * (t * k) = 1 - k * k := by linear_combination hcs
  field_simp
  linear_combination (P * Q) * hcs

/-- The matrix from the rotation at (1, 1) is the closed form. -/
theorem whiten11 : sn a b c * √(1 / l1 a b c e) * sn a b c + cs a b c * √(1 / l2 a b c e) * cs a b c
    = (a + e + rt a b c e) * iv a b c e := by
  unfold iv
  rw [tr_eq a b c e ha hc hd he, rt_eq a b c e ha hc hd he]
  have p1 := Real.sqrt_pos.mpr (l1_pos a b c e ha hc hd he)
  have p2 := Real.sqrt_pos.mpr (l2_pos a b c e ha hc hd he)
  have hcs := cs_sn a b c
  have ht := tng_eq a b c
  rw [Real.sqrt_div zero_le_one, Real.sqrt_div zero_le_one, Real.sqrt_one]
  unfold sn
  have e1 : √(l1 a b c e) * √(l1 a b c e) = a - tng a b c * b + e := Real.mul_self_sqrt (l1_pos a b c e ha hc hd he).le
  have e2 : √(l2 a b c e) * √(l2 a b c e) = c + tng a b c * b + e := Real.mul_self_sqrt (l2_pos a b c e ha hc hd he).le
  generalize √(l1 a b c e) = P at *
  generalize √(l2 a b c e) = Q at *
  generalize cs a b c = k at *
  generalize tng a b c = t at *
  have hC : a + e = k * k * (P * P) + t * k * (t * k) * (Q * Q) := by
    rw [e1, e2]
    linear_combination (-(a + e)) * hcs - k * k * t * ht
  rw [hC]
  field_simp
  linear_combination (P * Q) * hcs

/-- The matrix from the rotation off the diagonal is the closed form. -/
theorem whiten01 : cs a b c * √(1 / l1 a b c e) * (-sn a b c) + sn a b c * √(1 / l2 a b c e) * cs a b c
    = (0 - b) * iv a b c e := by
  unfold iv
  rw [tr_eq a b c e ha hc hd he, rt_eq a b c e ha hc hd he]
  have p1 := Real.sqrt_pos.mpr (l1_pos a b c e ha hc hd he)
  have p2 := Real.sqrt_pos.mpr (l2_pos a b c e ha hc hd he)
  have hcs := cs_sn a b c
  have ht := tng_eq a b c
  rw [Real.sqrt_div zero_le_one, Real.sqrt_div zero_le_one, Real.sqrt_one]
  unfold sn
  have e1 : √(l1 a b c e) * √(l1 a b c e) = a - tng a b c * b + e := Real.mul_self_sqrt (l1_pos a b c e ha hc hd he).le
  have e2 : √(l2 a b c e) * √(l2 a b c e) = c + tng a b c * b + e := Real.mul_self_sqrt (l2_pos a b c e ha hc hd he).le
  generalize √(l1 a b c e) = P at *
  generalize √(l2 a b c e) = Q at *
  generalize cs a b c = k at *
  generalize tng a b c = t at *
  have hC : b = t * k * k * (Q * Q - P * P) := by
    rw [e1, e2]
    linear_combination (-b) * hcs - k * k * ht
  have hC' : 0 - b = t * k * k * (P * P - Q * Q) := by linear_combination (-1 : ℝ) * hC
  rw [hC']
  field_simp
  ring

end

/-! ## Sums over a finite set of points -/

section
variable {I : Type} [Fintype I] (x y : I → ℝ) (n m k : ℝ)

/-- The mean of products of deviations is the mean of products less the product of means. -/
theorem cov_eq (hn : n ≠ 0) (hI : (Fintype.card I : ℝ) = n) (hm : m = (∑ i, x i) / n) (hk : k = (∑ i, y i) / n) :
    (∑ i, (x i - m) * (y i - k)) / n = (∑ i, x i * y i) / n - m * k := by
  have h1 : ∑ i, x i = n * m := by rw [hm]; field_simp
  have h2 : ∑ i, y i = n * k := by rw [hk]; field_simp
  have : ∑ i, (x i - m) * (y i - k) = ∑ i, x i * y i - n * m * k := by
    have e : ∀ i, (x i - m) * (y i - k) = x i * y i - x i * k - m * y i + m * k := fun i => by ring
    simp only [e, Finset.sum_add_distrib, Finset.sum_sub_distrib, ← Finset.sum_mul, ← Finset.mul_sum,
      Finset.sum_const, Finset.card_univ, nsmul_eq_mul, h1, h2, hI]
    ring
  rw [this]
  field_simp

/-- A mean of squares is nonnegative. -/
theorem var_nonneg (hn : 0 < n) : 0 ≤ (∑ i, x i * x i) / n :=
  div_nonneg (Finset.sum_nonneg fun i _ => mul_self_nonneg _) hn.le

/-- The square of a mean of products is at most the product of the means of squares. -/
theorem cov_sq_le (hn : 0 < n) : (∑ i, x i * y i) / n * ((∑ i, x i * y i) / n) ≤ (∑ i, x i * x i) / n * ((∑ i, y i * y i) / n) := by
  have h := Finset.sum_mul_sq_le_sq_mul_sq Finset.univ x y
  rw [div_mul_div_comm, div_mul_div_comm]
  have h' : (∑ i, x i * y i) * (∑ i, x i * y i) ≤ (∑ i, x i * x i) * (∑ i, y i * y i) := by
    simpa only [sq] using h
  exact div_le_div_of_nonneg_right h' (mul_pos hn hn).le

end

end Cert.Whiten

end
-- ==== Proof.Equation.Sums.lean ====
/-
  The kernel's sums over the extended reals: the running sums, the sums of lines and columns, and what they come to on
  real data.
-/
module

public import proofs.«01_k».proof.Proof.KernelIdeal.Values
public import proofs.«01_k».proof.Proof.Equation.Whiten
public import Idealize.ShloMosaic.PureOps.Ideal.Laws
public import Idealize.ShloMosaic.Lib.ValueIdx
public import Idealize.ShloMosaic.Lib.ValueLayout
public import Idealize.ShloMosaic.Lib.IdealHost

@[expose] public section

set_option maxRecDepth 16384

noncomputable section

namespace Cert.KernelIdeal.Sums

open Cert.KernelIdeal Cert.KernelIdeal.Gen Cert.KernelIdeal.Plan Cert.KernelIdeal.Values
open Idealize.ShloMosaic Idealize.ShloMosaic.ValueIdx

/-- A sum of reals is the same sum of extended reals. -/
theorem coe_sum {I : Type} (s : Finset I) (f : I → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a set of triples of coordinates. -/
theorem sum_idx3 {n0 n1 n2 : ℕ} (f : (⟨3, ![n0, n1, n2]⟩ : Shape).Idx → EReal) :
    ∑ i, f i = ∑ a, ∑ b, ∑ c, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm, Fintype.sum_prod_type]
  refine Finset.sum_congr rfl fun a _ => ?_
  rw [Fintype.sum_prod_type]
  rfl

/-- A sum over 384 rows, eight at a time. -/
theorem sum_rows (f : Fin 384 → EReal) :
    ∑ h, f h = ∑ k : Fin 48, ∑ a : Fin 8, f ⟨8 * k.val + a.val, by have := k.isLt; have := a.isLt; omega⟩ := by
  rw [← Equiv.sum_comp (finProdFinEquiv (m := 48) (n := 8)) f, Fintype.sum_prod_type]
  refine Finset.sum_congr rfl fun k _ => Finset.sum_congr rfl fun a _ => congrArg f (Fin.ext ?_)
  show a.val + 8 * k.val = 8 * k.val + a.val
  omega

/-- A running sum at an entry. -/
theorem acc_at (g : (o : ℕ) → o + 8 ≤ 384 → Row Ideal) (i : S8x384.Idx) : ∀ (n o : ℕ) (h : o + 8 * n ≤ 384) (a : Row Ideal),
    acc g n o h a i = (a i : EReal) + ∑ k : Fin n, (g (o + 8 * k.val) (by have := k.isLt; omega) i : EReal)
  | 0, o, h, a => by simp [acc]
  | n + 1, o, h, a => by
    rw [acc, acc_at g i n (o + 8), Fin.sum_univ_succ, ← add_assoc]
    have cg : ∀ (x y : ℕ) (hx : x + 8 ≤ 384) (hy : y + 8 ≤ 384), x = y → g x hx i = g y hy i := by
      intro x y hx hy e; subst e; rfl
    have e0 : (addf a (g o (by omega)) i : EReal) = (a i : EReal) + g (o + 8 * (0 : Fin (n + 1)).val) (by simp; omega) i := by
      rw [addf_apply]; exact congrArg _ (cg _ _ _ _ (by simp))
    rw [e0]
    refine congrArg _ (Finset.sum_congr rfl fun k _ => cg _ _ _ _ ?_)
    rw [Fin.val_succ]; omega

/-- The sums start at zero. -/
theorem zeroRow_at (i : S8x384.Idx) : (zeroRow (F := Ideal) i : EReal) = 0 := Ideal.ofBits_zero_f32

variable (V W : ChnV Ideal)

/-- A channel's running sums at an entry. -/
theorem tot_at {ch : ℕ} (hc : ch < 8) (a : Fin 8) (b : Fin 384) : (tot V hc (ix2 a b) : EReal)
    = ∑ k : Fin 48, V (ix3 (⟨ch, hc⟩ : Fin 8) (⟨8 * k.val + a.val, by have := k.isLt; have := a.isLt; omega⟩ : Fin 384) b) := by
  rw [tot, acc_at, zeroRow_at, zero_add]
  refine Finset.sum_congr rfl fun k _ => ?_
  rw [rows_at]
  exact congrArg (fun r => V (ix3 (⟨ch, hc⟩ : Fin 8) r b)) (Fin.ext (show 0 + 8 * k.val + a.val = 8 * k.val + a.val by omega))

/-- A channel's running products at an entry. -/
theorem dot_at {ch : ℕ} (hc : ch < 8) (a : Fin 8) (b : Fin 384) : (dot V W hc (ix2 a b) : EReal)
    = ∑ k : Fin 48, V (ix3 (⟨ch, hc⟩ : Fin 8) (⟨8 * k.val + a.val, by have := k.isLt; have := a.isLt; omega⟩ : Fin 384) b)
      * W (ix3 (⟨ch, hc⟩ : Fin 8) (⟨8 * k.val + a.val, by have := k.isLt; have := a.isLt; omega⟩ : Fin 384) b) := by
  rw [dot, acc_at, zeroRow_at, zero_add]
  refine Finset.sum_congr rfl fun k _ => ?_
  rw [mulf_apply, rows_at, rows_at]
  exact congrArg (fun r => (V (ix3 (⟨ch, hc⟩ : Fin 8) r b) * W (ix3 (⟨ch, hc⟩ : Fin 8) r b) : EReal)) (Fin.ext (show 0 + 8 * k.val + a.val = 8 * k.val + a.val by omega))

/-- A line's entry is its column's sum. -/
theorem lineSum_at (x : Row Ideal) (b : Fin 384) : (lineSum x (ix2 (0 : Fin 1) b) : EReal) = ∑ a : Fin 8, x (ix2 a b) := by
  rw [lineSum, shapeCast_a_1a_apply]
  refine (Ideal.multiReduction_add_single x _ _ _ _ _).trans ?_
  refine Finset.sum_congr rfl fun k _ => congrArg x ?_
  funext a
  refine Fin.ext ?_
  rw [Shape.Reduces.lift_val]
  fin_cases a <;> rfl

/-- A column's entry is its row's sum. -/
theorem colSum_at (x : Row Ideal) (a : Fin 8) : (colSum x (ix2 a (0 : Fin 1)) : EReal) = ∑ b : Fin 384, x (ix2 a b) := by
  rw [colSum]
  refine (shapeCast_apply _ _ _ (ix1 a) ?_).trans ?_
  · rw [Shape.rowMajor_val_one, Shape.rowMajor_val_two]
    show a.val = a.val * 1 + 0
    omega
  refine (Ideal.multiReduction_add_single x _ _ _ _ _).trans ?_
  refine Finset.sum_congr rfl fun k _ => congrArg x ?_
  funext a
  refine Fin.ext ?_
  rw [Shape.Reduces.lift_val]
  fin_cases a <;> rfl

/-- The sum of a column. -/
theorem sumCol_at (v : Col Ideal) : (sumCol v : EReal) = ∑ a : Fin 8, v (ix2 a (0 : Fin 1)) := by
  rw [sumCol]
  refine (shapeCast_apply _ _ _ (ix1 (0 : Fin 1)) ?_).trans ?_
  · rw [Shape.rowMajor_val_one, Shape.rowMajor_val_three]; rfl
  refine (Ideal.multiReduction_add_total _ _ _ (by decide) _ _ _).trans ?_
  rw [sum_idx3]
  simp only [Fin.sum_univ_one, Fin.isValue]
  refine Finset.sum_congr rfl fun a _ => ?_
  exact shapeCast_ab_1ab_apply v _ _ a 0

/-- The sum of a whole row block. -/
theorem sumRow_at (v : Row Ideal) : (sumRow v : EReal) = ∑ a : Fin 8, ∑ b : Fin 384, v (ix2 a b) := by
  rw [sumRow]
  refine (shapeCast_apply _ _ _ (ix1 (0 : Fin 1)) ?_).trans ?_
  · rw [Shape.rowMajor_val_one, Shape.rowMajor_val_three]; rfl
  refine (Ideal.multiReduction_add_total _ _ _ (by decide) _ _ _).trans ?_
  rw [sum_idx3]
  simp only [Fin.sum_univ_one, Fin.isValue]
  refine Finset.sum_congr rfl fun a _ => Finset.sum_congr rfl fun b _ => ?_
  exact shapeCast_ab_1ab_apply v _ _ a b

/-- A stack's lines. -/
theorem stack_at (u : Fin 8 → Line Ideal) (a : Fin 8) (b : Fin 384) :
    stack (u 0) (u 1) (u 2) (u 3) (u 4) (u 5) (u 6) (u 7) (ix2 a b) = u a (ix2 (0 : Fin 1) b) := by
  refine concatenate_apply_piece (t := S8x384) 0 [⟨S1x384, u 0⟩, ⟨S1x384, u 1⟩, ⟨S1x384, u 2⟩, ⟨S1x384, u 3⟩, ⟨S1x384, u 4⟩, ⟨S1x384, u 5⟩, ⟨S1x384, u 6⟩, ⟨S1x384, u 7⟩] _ _ a.val a.isLt S1x384 (u a) ?_ rfl a.val ?_ _ ?_ ?_
  · fin_cases a <;> rfl
  · fin_cases a <;> rfl
  · intro c hc
    fin_cases c
    · exact absurd rfl hc
    · rfl
  · rfl

/-- A channel's sum. -/
theorem chSums_at (ch : Fin 8) : (chSums V (ix2 ch (0 : Fin 1)) : EReal) = ∑ h : Fin 384, ∑ w : Fin 384, V (ix3 ch h w) := by
  rw [chSums, colSum_at]
  have e : ∀ b, (stack (lineSum (tot V l0)) (lineSum (tot V l1)) (lineSum (tot V l2)) (lineSum (tot V l3))
    (lineSum (tot V l4)) (lineSum (tot V l5)) (lineSum (tot V l6)) (lineSum (tot V l7)) (ix2 ch b) : EReal)
      = ∑ a : Fin 8, ∑ k : Fin 48, V (ix3 ch (⟨8 * k.val + a.val, by have := k.isLt; have := a.isLt; omega⟩ : Fin 384) b) := by
    intro b
    refine (stack_at (fun c => lineSum (tot V c.isLt)) ch b).trans ?_
    refine (lineSum_at _ b).trans (Finset.sum_congr rfl fun a _ => tot_at V ch.isLt a b)
  refine (Finset.sum_congr rfl fun b _ => e b).trans ?_
  refine Finset.sum_comm.trans ?_
  refine Eq.trans ?_ ((sum_rows fun h => ∑ w : Fin 384, V (ix3 ch h w)).trans Finset.sum_comm).symm
  exact Finset.sum_congr rfl fun a _ => Finset.sum_comm

/-- The products of every channel, added up, at an entry. -/
theorem dots_at (a : Fin 8) (b : Fin 384) : (dots V W (ix2 a b) : EReal) = ∑ ch : Fin 8, dot V W ch.isLt (ix2 a b) := by
  rw [Fin.sum_univ_eight, dots]
  simp only [addf_apply, zeroRow_at, zero_add]

/-- All products' sum. -/
theorem sumDots_at : (sumRow (dots V W) : EReal)
    = ∑ ch : Fin 8, ∑ h : Fin 384, ∑ w : Fin 384, V (ix3 ch h w) * W (ix3 ch h w) := by
  rw [sumRow_at]
  simp only [dots_at]
  have e : ∀ (f : Fin 8 → Fin 8 → Fin 384 → EReal), ∑ a, ∑ b, ∑ ch, f ch a b = ∑ ch, ∑ a, ∑ b, f ch a b := by
    intro f
    refine (Finset.sum_congr rfl fun a _ => Finset.sum_comm).trans ?_
    exact Finset.sum_comm
  rw [e]
  refine Finset.sum_congr rfl fun ch _ => ?_
  rw [sum_rows, Finset.sum_comm (s := (Finset.univ : Finset (Fin 48)))]
  refine Finset.sum_congr rfl fun a _ => ?_
  rw [Finset.sum_comm (s := (Finset.univ : Finset (Fin 48)))]
  exact Finset.sum_congr rfl fun b _ => dot_at V W ch.isLt a b

/-! ## On real data -/

section
variable (v w : Fin 8 → Fin 384 → Fin 384 → ℝ) (hV : ∀ a b c, V (ix3 a b c) = (v a b c : EReal)) (hW : ∀ a b c, W (ix3 a b c) = (w a b c : EReal))

/-- A channel's points, and all points of a group. -/
abbrev Pts := Fin 8 × Fin 384 × Fin 384

/-- A sum over a channel, and over a group. -/
def sumC (ch : Fin 8) : ℝ := ∑ h, ∑ c, v ch h c
/-- The sum over a group. -/
def sumG : ℝ := ∑ p : Pts, v p.1 p.2.1 p.2.2
/-- The sum of the products over a group. -/
def sumP : ℝ := ∑ p : Pts, v p.1 p.2.1 p.2.2 * w p.1 p.2.1 p.2.2

include hV in
/-- A channel's sum of numbers. -/
theorem chSums_coe (ch : Fin 8) : (chSums V (ix2 ch (0 : Fin 1)) : EReal) = ((sumC v ch : ℝ) : EReal) := by
  rw [chSums_at, sumC, coe_sum]
  refine Finset.sum_congr rfl fun h _ => ?_
  rw [coe_sum]
  exact Finset.sum_congr rfl fun c _ => hV _ _ _

include hV in
/-- A group's sum of numbers. -/
theorem sumCol_coe : (sumCol (chSums V) : EReal) = ((sumG v : ℝ) : EReal) := by
  rw [sumCol_at, sumG, Fintype.sum_prod_type, coe_sum]
  refine Finset.sum_congr rfl fun ch _ => ?_
  rw [chSums_coe V v hV, sumC, Fintype.sum_prod_type]

include hV hW in
/-- A group's sum of products of numbers. -/
theorem sumDots_coe : (sumRow (dots V W) : EReal) = ((sumP v w : ℝ) : EReal) := by
  rw [sumDots_at, sumP, Fintype.sum_prod_type, coe_sum]
  refine Finset.sum_congr rfl fun ch _ => ?_
  rw [Fintype.sum_prod_type, coe_sum]
  refine Finset.sum_congr rfl fun h _ => ?_
  rw [coe_sum]
  refine Finset.sum_congr rfl fun c _ => ?_
  rw [hV, hW, EReal.coe_mul]

end

end Cert.KernelIdeal.Sums

end
-- ==== Proof.Equation.Coef.lean ====
/- The kernel's coefficients on real data: each is the real number the closed form of the whitening matrix gives. -/
module

public import proofs.«01_k».proof.Proof.Equation.Sums

@[expose] public section

set_option maxRecDepth 16384

noncomputable section

namespace Cert.KernelIdeal.Coef

open Cert.KernelIdeal Cert.KernelIdeal.Gen Cert.KernelIdeal.Plan Cert.KernelIdeal.Values Cert.KernelIdeal.Sums
open Idealize.ShloMosaic Idealize.ShloMosaic.ValueIdx
open Cert

/-! ## The numbers written out -/

/-- The shift added to the diagonal. -/
def eps : ℝ := 10995116 / 2 ^ 40
/-- The least value the determinant is raised to. -/
def tiny : ℝ := 10633824 / 2 ^ 123

/-- The shift is positive. -/
theorem eps_pos : 0 < eps := by unfold eps; norm_num
/-- The determinant's floor lies below the shift's square. -/
theorem tiny_le : tiny ≤ eps * eps := by unfold eps tiny; norm_num

/-- The literal of the shift. -/
theorem lit_eps : Ideal.ofBits .f32 0x3727C5AC#32 = ((eps : ℝ) : EReal) := by
  simp [Ideal.ofBits, Ideal.ieee, eps]
  rw [← EReal.coe_mul]
  norm_num [zpow_neg]
/-- The literal of the determinant's floor. -/
theorem lit_tiny : Ideal.ofBits .f32 0x0DA24260#32 = ((tiny : ℝ) : EReal) := by
  simp [Ideal.ofBits, Ideal.ieee, tiny]
  rw [← EReal.coe_mul]
  norm_num [zpow_neg]
/-- The literal two. -/
theorem lit_two : Ideal.ofBits .f32 0x40000000#32 = ((2 : ℝ) : EReal) := by
  simp [Ideal.ofBits, Ideal.ieee]
  rw [← EReal.coe_mul]
  norm_num [zpow_neg]
/-- The literal one. -/
theorem lit_one : Ideal.ofBits .f32 0x3F800000#32 = ((1 : ℝ) : EReal) := by
  simp [Ideal.ofBits, Ideal.ieee]
  rw [← EReal.coe_mul]
  norm_num [zpow_neg]
/-- The literal minus one. -/
theorem lit_neg_one : Ideal.ofBits .f32 0xBF800000#32 = ((-1 : ℝ) : EReal) := by
  simp [Ideal.ofBits, Ideal.ieee]
  rw [← EReal.coe_mul]
  norm_num [zpow_neg]
/-- The literal of a group's count. -/
theorem lit_group : Ideal.ofBits .f32 0x49900000#32 = ((1179648 : ℝ) : EReal) := by
  simp [Ideal.ofBits, Ideal.ieee]
  rw [← EReal.coe_mul]
  norm_num [zpow_neg]
/-- The literal of a plane's count. -/
theorem lit_plane : Ideal.ofBits .f32 0x48100000#32 = ((147456 : ℝ) : EReal) := by
  simp [Ideal.ofBits, Ideal.ieee]
  rw [← EReal.coe_mul]
  norm_num [zpow_neg]

/-- The named reciprocal of a group's count. -/
theorem cN_eq : (cN (F := Ideal) : EReal) = ((1 / 1179648 : ℝ) : EReal) :=
  IdealRules.named_const.ideal_named_scalar κ "inv_n" _ _ rfl
/-- The named reciprocal of a plane's count. -/
theorem cS_eq : (cS (F := Ideal) : EReal) = ((1 / 147456 : ℝ) : EReal) :=
  IdealRules.named_const.ideal_named_scalar κ "inv_sp" _ _ rfl

/-! ## Arithmetic of reals among the extended reals -/

section
variable (a b : ℝ)

/-- A quotient of numbers with a divisor other than zero. -/
theorem div_coe' (hb : b ≠ 0) : Ideal.div (a : EReal) (b : EReal) = ((a / b : ℝ) : EReal) := by
  rw [Ideal.div, if_neg (by exact_mod_cast hb), ← EReal.coe_inv, ← EReal.coe_mul, div_eq_mul_inv]

/-- The root of a number that is not negative. -/
theorem sqrt_coe' (ha : 0 ≤ a) : Ideal.sqrt (a : EReal) = ((√a : ℝ) : EReal) := by
  show (if a < 0 then (⊥ : EReal) else ((√a : ℝ) : EReal)) = _
  rw [if_neg (not_lt.mpr ha)]

/-- The inverse root of a positive number. -/
theorem rsqrt_coe' (ha : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.mpr ha.le), if_neg ha.ne']

/-- A product of numbers. -/
theorem sMul : (Scalar.mulf (F := Ideal) (φ := .f32) (a : EReal) (b : EReal) : EReal) = ((a * b : ℝ) : EReal) := (EReal.coe_mul a b).symm
/-- A sum of numbers. -/
theorem sAdd : (Scalar.addf (F := Ideal) (φ := .f32) (a : EReal) (b : EReal) : EReal) = ((a + b : ℝ) : EReal) := (EReal.coe_add a b).symm
/-- A difference of numbers. -/
theorem sSub : (Scalar.subf (F := Ideal) (φ := .f32) (a : EReal) (b : EReal) : EReal) = ((a - b : ℝ) : EReal) := (EReal.coe_sub a b).symm
/-- The larger of two numbers. -/
theorem sMax : (Scalar.maximumf (F := Ideal) (φ := .f32) (a : EReal) (b : EReal) : EReal) = ((max a b : ℝ) : EReal) := (EReal.coe_strictMono.monotone.map_max (a := a) (b := b)).symm
/-- A quotient of numbers. -/
theorem sDiv (hb : b ≠ 0) : (Scalar.divf (F := Ideal) (φ := .f32) (a : EReal) (b : EReal) : EReal) = ((a / b : ℝ) : EReal) := div_coe' a b hb
/-- The root of a number. -/
theorem sSqrt (ha : 0 ≤ a) : (Scalar.sqrt (F := Ideal) (φ := .f32) (a : EReal) : EReal) = ((√a : ℝ) : EReal) := sqrt_coe' a ha
/-- The inverse root of a number. -/
theorem sRsqrt (ha : 0 < a) : (Scalar.rsqrt (F := Ideal) (φ := .f32) (a : EReal) : EReal) = (((√a)⁻¹ : ℝ) : EReal) := rsqrt_coe' a ha
end

/-! ## Means of a group -/

/-- A group's data in one component, as numbers. -/
abbrev Grp := Fin 8 → Fin 384 → Fin 384 → ℝ

/-- A group's mean, and the mean of products less the product of means. -/
def mu (v : Grp) : ℝ := sumG v / 1179648
/-- The covariance of two components, as a difference of moments. -/
def cv (v w : Grp) : ℝ := sumP v w / 1179648 - mu v * mu w

/-- A group's count. -/
theorem card_pts : ((Fintype.card Pts : ℕ) : ℝ) = 1179648 := by
  simp only [Fintype.card_prod, Fintype.card_fin]
  norm_num

/-- The mean of products of deviations. -/
theorem cv_eq (v w : Grp) : (∑ p : Pts, (v p.1 p.2.1 p.2.2 - mu v) * (w p.1 p.2.1 p.2.2 - mu w)) / 1179648 = cv v w :=
  Whiten.cov_eq (fun p : Pts => v p.1 p.2.1 p.2.2) (fun p : Pts => w p.1 p.2.1 p.2.2) 1179648 (mu v) (mu w) (by norm_num) card_pts rfl rfl

/-- A variance is not negative. -/
theorem cv_nonneg (v : Grp) : 0 ≤ cv v v := by
  rw [← cv_eq]; exact Whiten.var_nonneg (fun p : Pts => v p.1 p.2.1 p.2.2 - mu v) 1179648 (by norm_num)

/-- The covariance's square is at most the variances' product. -/
theorem cv_sq_le (v w : Grp) : cv v w * cv v w ≤ cv v v * cv w w := by
  simp only [← cv_eq]
  exact Whiten.cov_sq_le (fun p : Pts => v p.1 p.2.1 p.2.2 - mu v) (fun p : Pts => w p.1 p.2.1 p.2.2 - mu w) 1179648 (by norm_num)

/-- The whitening matrix's entries in closed form. -/
def rtR (v w : Grp) : ℝ := Whiten.rt (cv v v) (cv v w) (cv w w) eps
/-- The common factor of the closed form. -/
def ivR (v w : Grp) : ℝ := Whiten.iv (cv v v) (cv v w) (cv w w) eps
/-- The closed form at (0, 0). -/
def w00R (v w : Grp) : ℝ := (cv w w + eps + rtR v w) * ivR v w
/-- The closed form at (1, 1). -/
def w11R (v w : Grp) : ℝ := (cv v v + eps + rtR v w) * ivR v w
/-- The closed form off the diagonal. -/
def w01R (v w : Grp) : ℝ := (0 - cv v w) * ivR v w

section
variable (X : BlkV Ideal) (v w : Grp) (hv : ∀ a b c, plane X 0 (ix3 a b c) = (v a b c : EReal)) (hw : ∀ a b c, plane X 1 (ix3 a b c) = (w a b c : EReal))

include hv in
/-- The first component's mean. -/
theorem m0_eq : (m0 X : EReal) = ((mu v : ℝ) : EReal) := by
  rw [m0, mean, cN_eq, sumCol_coe _ v hv, sMul, mu, mul_one_div]
include hw in
/-- The second component's mean. -/
theorem m1_eq : (m1 X : EReal) = ((mu w : ℝ) : EReal) := by
  rw [m1, mean, cN_eq, sumCol_coe _ w hw, sMul, mu, mul_one_div]

/-- A shifted variance of numbers. -/
theorem varOf_coe (q m : ℝ) : (varOf (F := Ideal) (q : EReal) (m : EReal) : EReal) = ((q / 1179648 - m * m + eps : ℝ) : EReal) := by
  have h : (Scalar.ofBits (F := Ideal) .f32 0x3727C5AC#32 : EReal) = ((eps : ℝ) : EReal) := lit_eps
  rw [varOf, cN_eq, h, sMul, sMul, sSub, sAdd, mul_one_div]

/-- A covariance of numbers. -/
theorem covOf_coe (q m n : ℝ) : (covOf (F := Ideal) (q : EReal) (m : EReal) (n : EReal) : EReal) = ((q / 1179648 - m * n : ℝ) : EReal) := by
  rw [covOf, cN_eq, sMul, sMul, sSub, mul_one_div]

include hv in
/-- The kernel's first variance. -/
theorem va_eq : (va X : EReal) = ((cv v v + eps : ℝ) : EReal) := by
  rw [va, m0_eq X v hv, sumDots_coe _ _ v v hv hv, varOf_coe]; rfl
include hw in
/-- The kernel's second variance. -/
theorem vc_eq : (vc X : EReal) = ((cv w w + eps : ℝ) : EReal) := by
  rw [vc, m1_eq X w hw, sumDots_coe _ _ w w hw hw, varOf_coe]; rfl
include hv hw in
/-- The kernel's covariance. -/
theorem vb_eq : (vb X : EReal) = ((cv v w : ℝ) : EReal) := by
  rw [vb, m0_eq X v hv, m1_eq X w hw, sumDots_coe _ _ v w hv hw, covOf_coe]; rfl

include hv hw in
/-- The kernel's root of the determinant; its floor is never reached. -/
theorem rt_eq : (rt X : EReal) = ((rtR v w : ℝ) : EReal) := by
  have h : (Scalar.ofBits (F := Ideal) .f32 0x0DA24260#32 : EReal) = ((tiny : ℝ) : EReal) := lit_tiny
  have hd := Whiten.sq_le_det (cv v v) (cv v w) (cv w w) eps (cv_nonneg v) (cv_nonneg w) (cv_sq_le v w) eps_pos
  rw [rt, rootDet, va_eq X v hv, vb_eq X v w hv hw, vc_eq X w hw, h, sMul, sMul, sSub, sMax,
    max_eq_left (show tiny ≤ (cv v v + eps) * (cv w w + eps) - cv v w * cv v w from tiny_le.trans hd),
    sSqrt _ (show 0 ≤ (cv v v + eps) * (cv w w + eps) - cv v w * cv v w from le_trans (mul_pos eps_pos eps_pos).le hd)]
  rfl

include hv hw in
/-- The kernel's common factor. -/
theorem iv_eq : (iv X : EReal) = ((ivR v w : ℝ) : EReal) := by
  have h : (Scalar.ofBits (F := Ideal) .f32 0x40000000#32 : EReal) = ((2 : ℝ) : EReal) := lit_two
  have ht := Whiten.tr_pos (cv v v) (cv v w) (cv w w) eps (cv_nonneg v) (cv_nonneg w) (cv_sq_le v w) eps_pos
  have hr := Whiten.rt_pos (cv v v) (cv v w) (cv w w) eps (cv_nonneg v) (cv_nonneg w) (cv_sq_le v w) eps_pos
  rw [iv, scaleOf, va_eq X v hv, vc_eq X w hw, rt_eq X v w hv hw, h, sMul, sAdd, sAdd, sRsqrt _ (show 0 < cv v v + eps + (cv w w + eps) + 2 * rtR v w from ht),
    sDiv _ _ (show rtR v w ≠ 0 from hr.ne')]
  rfl

include hv hw in
/-- The kernel's coefficient at (0, 0). -/
theorem w00_eq : (w00 X : EReal) = ((w00R v w : ℝ) : EReal) := by
  rw [w00, diagOf, vc_eq X w hw, rt_eq X v w hv hw, iv_eq X v w hv hw, sAdd, sMul]; rfl
include hv hw in
/-- The kernel's coefficient at (1, 1). -/
theorem w11_eq : (w11 X : EReal) = ((w11R v w : ℝ) : EReal) := by
  rw [w11, diagOf, va_eq X v hv, rt_eq X v w hv hw, iv_eq X v w hv hw, sAdd, sMul]; rfl
include hv hw in
/-- The kernel's coefficient off the diagonal. -/
theorem w01_eq : (w01 X : EReal) = ((w01R v w : ℝ) : EReal) := by
  have h : (Scalar.ofBits (F := Ideal) .f32 0x00000000#32 : EReal) = ((0 : ℝ) : EReal) := Ideal.ofBits_zero_f32
  rw [w01, offOf, vb_eq X v w hv hw, iv_eq X v w hv hw, h, sSub, sMul]; rfl

/-- A channel's parameter. -/
theorem par_at (S : ParV Ideal) (ch : Fin 8) : (atRow (parRow S) ch.isLt : EReal) = S (ix3 (0 : Fin 1) ch (0 : Fin 384)) := by
  rw [atRow]
  show extractStridedSlice S1x1 ![ch.val, 0] (parRow S) (slicesRow ch.isLt) _ = _
  rw [extractStridedSlice_apply _ _ _ _ (ix2 ch (0 : Fin 384)) (by intro a; fin_cases a <;> rfl), parRow]
  refine (shapeCast_1ab_ab_apply _ _ ch 0).trans (congrArg S ?_)
  funext a
  refine Fin.ext ?_
  rw [Rect.emb_apply]
  fin_cases a
  · rfl
  · show 0 + 1 * ch.val = ch.val; omega
  · rfl

/-- A channel's entry of a column. -/
theorem col_at (v : Col Ideal) (ch : Fin 8) : (atCol v ch.isLt : EReal) = v (ix2 ch (0 : Fin 1)) := by
  rw [atCol]
  show extractStridedSlice S1x1 ![ch.val, 0] v (slicesCol ch.isLt) _ = _
  exact extractStridedSlice_apply _ _ _ _ (ix2 ch (0 : Fin 1)) (by intro a; fin_cases a <;> rfl)

variable (S B : ParV Ideal) (ch : Fin 8) (s : ℝ) (b : EReal) (hs : S (ix3 (0 : Fin 1) ch (0 : Fin 384)) = (s : EReal)) (hb : B (ix3 (0 : Fin 1) ch (0 : Fin 384)) = b)

/-- A channel's shift; its bias may be infinite. -/
theorem shiftOf_coe (bi : EReal) (mv p m q n : ℝ) : (shiftOf (F := Ideal) bi (mv : EReal) (p : EReal) (m : EReal) (q : EReal) (n : EReal) : EReal)
    = bi * ((mv / 147456 : ℝ) : EReal) - ((p * m : ℝ) : EReal) - ((q * n : ℝ) : EReal) := by
  rw [shiftOf, cS_eq, sMul, sMul, sMul, mul_one_div]; rfl

/-- An entry of the result, for any shift. -/
theorem entry_coe (p q x y : ℝ) (z : EReal) : (entry (F := Ideal) (p : EReal) (q : EReal) z (x : EReal) (y : EReal) : EReal)
    = ((p * x + q * y : ℝ) : EReal) + z := by
  rw [EReal.coe_add, EReal.coe_mul, EReal.coe_mul]; rfl

include hv hw hs hb in
/-- The kernel's entries on real data. -/
theorem out0 (h c : Fin 384) : (outBlk X S B (ix5 (0 : Fin 1) ch h (0 : Fin 2) c) : EReal)
    = ((s * w00R v w * v ch h c + s * w01R v w * w ch h c : ℝ) : EReal)
      + (b * ((sumC v ch / 147456 : ℝ) : EReal) - ((s * w00R v w * mu v : ℝ) : EReal) - ((s * w01R v w * mu w : ℝ) : EReal)) := by
  show (entry (p00 X S ch.isLt) (p01 X S ch.isLt) (z0 X S B ch.isLt) (plane X 0 (ix3 ch h c)) (plane X 1 (ix3 ch h c)) : EReal) = _
  have e0 : (p00 X S ch.isLt : EReal) = ((s * w00R v w : ℝ) : EReal) := by rw [p00, par_at, hs, w00_eq X v w hv hw, sMul]
  have e1 : (p01 X S ch.isLt : EReal) = ((s * w01R v w : ℝ) : EReal) := by rw [p01, par_at, hs, w01_eq X v w hv hw, sMul]
  have e2 : (z0 X S B ch.isLt : EReal) = b * ((sumC v ch / 147456 : ℝ) : EReal) - ((s * w00R v w * mu v : ℝ) : EReal) - ((s * w01R v w * mu w : ℝ) : EReal) := by
    rw [z0, par_at, hb, col_at, chSums_coe _ v hv, e0, e1, m0_eq X v hv, m1_eq X w hw, shiftOf_coe]
  rw [e0, e1, e2, hv, hw, entry_coe]

include hv hw hs hb in
/-- The kernel's entries of the second component on real data. -/
theorem out1 (h c : Fin 384) : (outBlk X S B (ix5 (0 : Fin 1) ch h (1 : Fin 2) c) : EReal)
    = ((s * w01R v w * v ch h c + s * w11R v w * w ch h c : ℝ) : EReal)
      + (b * ((sumC w ch / 147456 : ℝ) : EReal) - ((s * w01R v w * mu v : ℝ) : EReal) - ((s * w11R v w * mu w : ℝ) : EReal)) := by
  show (entry (p01 X S ch.isLt) (p11 X S ch.isLt) (z1 X S B ch.isLt) (plane X 0 (ix3 ch h c)) (plane X 1 (ix3 ch h c)) : EReal) = _
  have e0 : (p11 X S ch.isLt : EReal) = ((s * w11R v w : ℝ) : EReal) := by rw [p11, par_at, hs, w11_eq X v w hv hw, sMul]
  have e1 : (p01 X S ch.isLt : EReal) = ((s * w01R v w : ℝ) : EReal) := by rw [p01, par_at, hs, w01_eq X v w hv hw, sMul]
  have e2 : (z1 X S B ch.isLt : EReal) = b * ((sumC w ch / 147456 : ℝ) : EReal) - ((s * w01R v w * mu v : ℝ) : EReal) - ((s * w11R v w * mu w : ℝ) : EReal) := by
    rw [z1, par_at, hb, col_at, chSums_coe _ w hw, e0, e1, m0_eq X v hv, m1_eq X w hw, shiftOf_coe]
  rw [e0, e1, e2, hv, hw, entry_coe]

end

/-- Numbers added before or after a value that may be infinite. -/
theorem around (a p q d : ℝ) (h : a - p - q = d) (z : EReal) :
    ((a : ℝ) : EReal) + (z - ((p : ℝ) : EReal) - ((q : ℝ) : EReal)) = ((d : ℝ) : EReal) + z := by
  subst h
  induction z using EReal.rec with
  | bot => simp
  | coe r => rw [← EReal.coe_sub, ← EReal.coe_sub, ← EReal.coe_add, ← EReal.coe_add]; exact congrArg _ (by ring)
  | top => rw [EReal.top_sub_coe, EReal.top_sub_coe, EReal.coe_add_top, EReal.coe_add_top]

end Cert.KernelIdeal.Coef

end
-- ==== Proof.Equation.Centred.lean ====
/- The reference program on real data, first half: a group's centred data and its covariance at an entry. -/
module

public import proofs.«01_k».proof.Proof.Equation.Coef
public import proofs.«01_k».proof.Proof.Gen.ReferenceIdeal.Run
public import Idealize.ShloMosaic.Lib.IdealHost
public import Idealize.ShloMosaic.Lib.Pipeline.Value
public import Idealize.ShloMosaic.Lib.ValueIdx

@[expose] public section

set_option maxRecDepth 16384

noncomputable section

namespace Cert.ReferenceIdeal.Entry

open Cert.ReferenceIdeal Cert.ReferenceIdeal.Gen Cert.ReferenceIdeal.Value
open Cert.KernelIdeal.Sums (Pts sumC sumG sumP coe_sum)
open Cert.KernelIdeal.Coef (Grp mu cv cv_eq eps lit_eps lit_two lit_one lit_neg_one lit_group lit_plane div_coe' sqrt_coe')
open Idealize.ShloMosaic Idealize.ShloMosaic.ValueIdx
open Cert

/-- The number of a group's channel. -/
abbrev chan (g : Fin 32) (k : Fin 8) : Fin 256 := ⟨8 * g.val + k.val, by have := g.isLt; have := k.isLt; omega⟩

/-- Where a group's point stands in the group's list of points. -/
def pos (p : Pts) : Fin 1179648 :=
  ⟨(p.1.val * 384 + p.2.1.val) * 384 + p.2.2.val, by have := p.1.isLt; have := p.2.1.isLt; have := p.2.2.isLt; omega⟩

/-- The flat positions run through a group's points once each. -/
theorem pos_bij : Function.Bijective pos := by
  constructor
  · rintro ⟨a, b, c⟩ ⟨a', b', c'⟩ h
    have e : (a.val * 384 + b.val) * 384 + c.val = (a'.val * 384 + b'.val) * 384 + c'.val := congrArg Fin.val h
    have := b.isLt; have := b'.isLt; have := c.isLt; have := c'.isLt
    refine Prod.ext (Fin.ext ?_) (Prod.ext (Fin.ext ?_) (Fin.ext ?_))
    · show a.val = a'.val; omega
    · show b.val = b'.val; omega
    · show c.val = c'.val; omega
  · intro n
    have hn := n.isLt
    refine ⟨(⟨n.val / 147456, by omega⟩, ⟨n.val / 384 % 384, by omega⟩, ⟨n.val % 384, by omega⟩), Fin.ext ?_⟩
    show (n.val / 147456 * 384 + n.val / 384 % 384) * 384 + n.val % 384 = n.val
    omega

/-- A sum over a group's list of points is the sum over its channels, rows and columns. -/
theorem sum_pos (f : Fin 1179648 → EReal) : ∑ n, f n = ∑ p : Pts, f (pos p) :=
  (Function.Bijective.sum_comp pos_bij f).symm

/-! ## The sums the host takes -/

/-- A group's sum in one component. -/
theorem sum_group (x : S32x8x384x384x2.Idx → EReal) (g : Fin 32) (d : Fin 2) :
    (Host.reduceAdd (F := Ideal) (φ := .f32) x (constant (F := Ideal) S_ .f32 0x00000000#32) reducesTo_S32x8x384x384x2_S32x2_d1_2_3 h_S_ (ix2 g d) : EReal)
      = ∑ p : Pts, x (ix5 g p.1 p.2.1 p.2.2 d) := by
  rw [hostReduceAdd_apply]
  show (Ideal.ofBits .f32 0x00000000#32 : EReal) + ∑ i ∈ Finset.univ.filter (fun i => reducesTo_S32x8x384x384x2_S32x2_d1_2_3.drop i = ix2 g d), x i = _
  rw [Ideal.ofBits_zero_f32, zero_add]
  refine Finset.sum_nbij' (fun i => ((i 1, i 2, i 3) : Pts)) (fun p => ix5 g p.1 p.2.1 p.2.2 d) (fun _ _ => Finset.mem_univ _) ?_ ?_ ?_ ?_
  · intro p _
    rw [Finset.mem_filter]
    refine ⟨Finset.mem_univ _, ?_⟩
    funext b
    refine Fin.ext ?_
    fin_cases b
    · exact Shape.ReducesTo.drop_apply_val_of_eq reducesTo_S32x8x384x384x2_S32x2_d1_2_3 (ix5 g p.1 p.2.1 p.2.2 d) 0 0
    · exact Shape.ReducesTo.drop_apply_val_of_eq reducesTo_S32x8x384x384x2_S32x2_d1_2_3 (ix5 g p.1 p.2.1 p.2.2 d) 1 4
  · intro i hi
    rw [Finset.mem_filter] at hi
    have h0 : (i 0 : ℕ) = g.val := by
      rw [← Shape.ReducesTo.drop_apply_val_of_eq reducesTo_S32x8x384x384x2_S32x2_d1_2_3 i 0 0, hi.2]
    have h4 : (i 4 : ℕ) = d.val := by
      rw [← Shape.ReducesTo.drop_apply_val_of_eq reducesTo_S32x8x384x384x2_S32x2_d1_2_3 i 1 4, hi.2]
    refine Eq.trans ?_ (eq_ix5 i).symm
    show ix5 g (i 1) (i 2) (i 3) d = ix5 (i 0) (i 1) (i 2) (i 3) (i 4)
    rw [show (i 0 : Fin 32) = g from Fin.ext h0, show (i 4 : Fin 2) = d from Fin.ext h4]
    rfl
  · intro p _; rfl
  · intro i hi
    rw [Finset.mem_filter] at hi
    have h0 : (i 0 : ℕ) = g.val := by
      rw [← Shape.ReducesTo.drop_apply_val_of_eq reducesTo_S32x8x384x384x2_S32x2_d1_2_3 i 0 0, hi.2]
    have h4 : (i 4 : ℕ) = d.val := by
      rw [← Shape.ReducesTo.drop_apply_val_of_eq reducesTo_S32x8x384x384x2_S32x2_d1_2_3 i 1 4, hi.2]
    refine congrArg x ((eq_ix5 i).trans ?_)
    show ix5 (i 0) (i 1) (i 2) (i 3) (i 4) = ix5 g (i 1) (i 2) (i 3) d
    rw [show (i 0 : Fin 32) = g from Fin.ext h0, show (i 4 : Fin 2) = d from Fin.ext h4]
    rfl

/-- A channel's sum in one component. -/
theorem sum_channel (x : S256x384x384x2.Idx → EReal) (q : Fin 256) (d : Fin 2) :
    (Host.reduceAdd (F := Ideal) (φ := .f32) x (constant (F := Ideal) S_ .f32 0x00000000#32) reducesTo_S256x384x384x2_S256x2_d1_2 h_S_ (ix2 q d) : EReal)
      = ∑ p : Fin 384 × Fin 384, x (ix4 q p.1 p.2 d) := by
  rw [hostReduceAdd_apply]
  show (Ideal.ofBits .f32 0x00000000#32 : EReal) + ∑ i ∈ Finset.univ.filter (fun i => reducesTo_S256x384x384x2_S256x2_d1_2.drop i = ix2 q d), x i = _
  rw [Ideal.ofBits_zero_f32, zero_add]
  refine Finset.sum_nbij' (fun i => ((i 1, i 2) : Fin 384 × Fin 384)) (fun p => ix4 q p.1 p.2 d) (fun _ _ => Finset.mem_univ _) ?_ ?_ ?_ ?_
  · intro p _
    rw [Finset.mem_filter]
    refine ⟨Finset.mem_univ _, ?_⟩
    funext b
    refine Fin.ext ?_
    fin_cases b
    · exact Shape.ReducesTo.drop_apply_val_of_eq reducesTo_S256x384x384x2_S256x2_d1_2 (ix4 q p.1 p.2 d) 0 0
    · exact Shape.ReducesTo.drop_apply_val_of_eq reducesTo_S256x384x384x2_S256x2_d1_2 (ix4 q p.1 p.2 d) 1 3
  · intro i hi
    rw [Finset.mem_filter] at hi
    have h0 : (i 0 : ℕ) = q.val := by
      rw [← Shape.ReducesTo.drop_apply_val_of_eq reducesTo_S256x384x384x2_S256x2_d1_2 i 0 0, hi.2]
    have h3 : (i 3 : ℕ) = d.val := by
      rw [← Shape.ReducesTo.drop_apply_val_of_eq reducesTo_S256x384x384x2_S256x2_d1_2 i 1 3, hi.2]
    refine Eq.trans ?_ (eq_ix4 i).symm
    show ix4 q (i 1) (i 2) d = ix4 (i 0) (i 1) (i 2) (i 3)
    rw [show (i 0 : Fin 256) = q from Fin.ext h0, show (i 3 : Fin 2) = d from Fin.ext h3]
    rfl
  · intro p _; rfl
  · intro i hi
    rw [Finset.mem_filter] at hi
    have h0 : (i 0 : ℕ) = q.val := by
      rw [← Shape.ReducesTo.drop_apply_val_of_eq reducesTo_S256x384x384x2_S256x2_d1_2 i 0 0, hi.2]
    have h3 : (i 3 : ℕ) = d.val := by
      rw [← Shape.ReducesTo.drop_apply_val_of_eq reducesTo_S256x384x384x2_S256x2_d1_2 i 1 3, hi.2]
    refine congrArg x ((eq_ix4 i).trans ?_)
    show ix4 (i 0) (i 1) (i 2) (i 3) = ix4 q (i 1) (i 2) d
    rw [show (i 0 : Fin 256) = q from Fin.ext h0, show (i 3 : Fin 2) = d from Fin.ext h3]
    rfl

/-! ## The products the host takes -/

/-- The covariance's products at an entry. -/
theorem dot_cov (A B : FVec Ideal S32x1179648x2 .f32) (g : Fin 32) (d e : Fin 2) :
    (Host.dotGeneral (F := Ideal) dot_S32x1179648x2_S32x1179648x2_S32x2x2_1_1_2_2_0_0 none A B (ix3 g d e) : EReal)
      = ∑ n : Fin 1179648, A (ix3 g n d) * B (ix3 g n e) := by
  show FloatOps.dotGeneral _ none _ A B (ix3 g d e) = _
  rw [Ideal.dotGeneral_apply, ← Equiv.sum_comp (contrEquiv1 dot_S32x1179648x2_S32x1179648x2_S32x2x2_1_1_2_2_0_0 1179648 rfl rfl).symm]
  refine Finset.sum_congr rfl fun c _ => ?_
  have c3 := contrEquiv1_symm_val dot_S32x1179648x2_S32x1179648x2_S32x2x2_1_1_2_2_0_0 1179648 rfl rfl c
  refine congrArg₂ (fun x y : EReal => x * y) (congrArg A ?_) (congrArg B ?_)
  · funext ax; apply Fin.ext
    match ax with
    | ⟨0, _⟩ => simp [DotDims.lhsIdx, dot_S32x1179648x2_S32x1179648x2_S32x2x2_1_1_2_2_0_0]; rfl
    | ⟨1, _⟩ => simp [DotDims.lhsIdx, dot_S32x1179648x2_S32x1179648x2_S32x2x2_1_1_2_2_0_0]; exact c3
    | ⟨2, _⟩ => simp [DotDims.lhsIdx, dot_S32x1179648x2_S32x1179648x2_S32x2x2_1_1_2_2_0_0]; rfl
  · funext ax; apply Fin.ext
    match ax with
    | ⟨0, _⟩ => simp [DotDims.rhsIdx, dot_S32x1179648x2_S32x1179648x2_S32x2x2_1_1_2_2_0_0]; rfl
    | ⟨1, _⟩ => simp [DotDims.rhsIdx, dot_S32x1179648x2_S32x1179648x2_S32x2x2_1_1_2_2_0_0]; exact c3
    | ⟨2, _⟩ => simp [DotDims.rhsIdx, dot_S32x1179648x2_S32x1179648x2_S32x2x2_1_1_2_2_0_0]; rfl

/-- A product of a matrix by a matrix's transpose, at an entry. -/
theorem dot_mat (A B : FVec Ideal S32x2x2 .f32) (g : Fin 32) (i l : Fin 2) :
    (Host.dotGeneral (F := Ideal) dot_S32x2x2_S32x2x2_S32x2x2_2_2_1_1_0_0 none A B (ix3 g i l) : EReal)
      = ∑ j : Fin 2, A (ix3 g i j) * B (ix3 g l j) := by
  show FloatOps.dotGeneral _ none _ A B (ix3 g i l) = _
  rw [Ideal.dotGeneral_apply, ← Equiv.sum_comp (contrEquiv1 dot_S32x2x2_S32x2x2_S32x2x2_2_2_1_1_0_0 2 rfl rfl).symm]
  refine Finset.sum_congr rfl fun c _ => ?_
  have c3 := contrEquiv1_symm_val dot_S32x2x2_S32x2x2_S32x2x2_2_2_1_1_0_0 2 rfl rfl c
  refine congrArg₂ (fun x y : EReal => x * y) (congrArg A ?_) (congrArg B ?_)
  · funext ax; apply Fin.ext
    match ax with
    | ⟨0, _⟩ => simp [DotDims.lhsIdx, dot_S32x2x2_S32x2x2_S32x2x2_2_2_1_1_0_0]; rfl
    | ⟨1, _⟩ => simp [DotDims.lhsIdx, dot_S32x2x2_S32x2x2_S32x2x2_2_2_1_1_0_0]; rfl
    | ⟨2, _⟩ => simp [DotDims.lhsIdx, dot_S32x2x2_S32x2x2_S32x2x2_2_2_1_1_0_0]; exact c3
  · funext ax; apply Fin.ext
    match ax with
    | ⟨0, _⟩ => simp [DotDims.rhsIdx, dot_S32x2x2_S32x2x2_S32x2x2_2_2_1_1_0_0]; rfl
    | ⟨1, _⟩ => simp [DotDims.rhsIdx, dot_S32x2x2_S32x2x2_S32x2x2_2_2_1_1_0_0]; rfl
    | ⟨2, _⟩ => simp [DotDims.rhsIdx, dot_S32x2x2_S32x2x2_S32x2x2_2_2_1_1_0_0]; exact c3

/-- The whitening product at an entry. -/
theorem dot_out (A : FVec Ideal S32x1179648x2 .f32) (B : FVec Ideal S32x2x2 .f32) (g : Fin 32) (n : Fin 1179648) (i : Fin 2) :
    (Host.dotGeneral (F := Ideal) dot_S32x1179648x2_S32x2x2_S32x1179648x2_2_2_1_1_0_0 none A B (ix3 g n i) : EReal)
      = ∑ l : Fin 2, A (ix3 g n l) * B (ix3 g i l) := by
  show FloatOps.dotGeneral _ none _ A B (ix3 g n i) = _
  rw [Ideal.dotGeneral_apply, ← Equiv.sum_comp (contrEquiv1 dot_S32x1179648x2_S32x2x2_S32x1179648x2_2_2_1_1_0_0 2 rfl rfl).symm]
  refine Finset.sum_congr rfl fun c _ => ?_
  have c3 := contrEquiv1_symm_val dot_S32x1179648x2_S32x2x2_S32x1179648x2_2_2_1_1_0_0 2 rfl rfl c
  refine congrArg₂ (fun x y : EReal => x * y) (congrArg A ?_) (congrArg B ?_)
  · funext ax; apply Fin.ext
    match ax with
    | ⟨0, _⟩ => simp [DotDims.lhsIdx, dot_S32x1179648x2_S32x2x2_S32x1179648x2_2_2_1_1_0_0]; rfl
    | ⟨1, _⟩ => simp [DotDims.lhsIdx, dot_S32x1179648x2_S32x2x2_S32x1179648x2_2_2_1_1_0_0]; rfl
    | ⟨2, _⟩ => simp [DotDims.lhsIdx, dot_S32x1179648x2_S32x2x2_S32x1179648x2_2_2_1_1_0_0]; exact c3
  · funext ax; apply Fin.ext
    match ax with
    | ⟨0, _⟩ => simp [DotDims.rhsIdx, dot_S32x1179648x2_S32x2x2_S32x1179648x2_2_2_1_1_0_0]; rfl
    | ⟨1, _⟩ => simp [DotDims.rhsIdx, dot_S32x1179648x2_S32x2x2_S32x1179648x2_2_2_1_1_0_0]; rfl
    | ⟨2, _⟩ => simp [DotDims.rhsIdx, dot_S32x1179648x2_S32x2x2_S32x1179648x2_2_2_1_1_0_0]; exact c3

/-! ## The centred data and the covariance -/

section
variable (V0 : Valuation τ sig (Elt Ideal))

/-- The program's arguments. -/
abbrev argX : S256x384x384x2.Idx → EReal := V0 (Proc.devRef .tc main_arg0)
/-- The scales. -/
abbrev argS : S256x1x1x1.Idx → EReal := V0 (Proc.devRef .tc main_arg1)
/-- The biases. -/
abbrev argB : S256x1x1x1.Idx → EReal := V0 (Proc.devRef .tc main_arg2)

/-- The data, group by group, at an entry. -/
theorem data_at (g : Fin 32) (k : Fin 8) (h w : Fin 384) (d : Fin 2) :
    (res_main_v0 V0 (ix5 g k h w d) : EReal) = argX V0 (ix4 (chan g k) h w d) := by
  rw [res_main_v0]
  refine shapeCast_apply _ _ _ _ ?_
  show (S256x384x384x2.rowMajor (ix4 (chan g k) h w d)).val = (S32x8x384x384x2.rowMajor (ix5 g k h w d)).val
  rw [Shape.rowMajor_val_four, Shape.rowMajor_val_five]
  show ((((8 * g.val + k.val)) * 384 + h.val) * 384 + w.val) * 2 + d.val = (((g.val * 8 + k.val) * 384 + h.val) * 384 + w.val) * 2 + d.val
  omega

variable (g : Fin 32) (u : Fin 2 → Grp) (hx : ∀ k h w d, argX V0 (ix4 (chan g k) h w d) = ((u d k h w : ℝ) : EReal))

include hx in
/-- A centred entry: the point less its group's mean. -/
theorem centred (p : Pts) (d : Fin 2) :
    (res_main_v7 V0 (ix3 g (pos p) d) : EReal) = ((u d p.1 p.2.1 p.2.2 - mu (u d) : ℝ) : EReal) := by
  rw [res_main_v7]
  refine (shapeCast_apply _ _ _ (ix5 g p.1 p.2.1 p.2.2 d) ?_).trans ?_
  · show (S32x8x384x384x2.rowMajor (ix5 g p.1 p.2.1 p.2.2 d)).val = (S32x1179648x2.rowMajor (ix3 g (pos p) d)).val
    rw [Shape.rowMajor_val_three, Shape.rowMajor_val_five]
    show (((g.val * 8 + p.1.val) * 384 + p.2.1.val) * 384 + p.2.2.val) * 2 + d.val
      = (g.val * 1179648 + ((p.1.val * 384 + p.2.1.val) * 384 + p.2.2.val)) * 2 + d.val
    omega
  rw [subf_apply, data_at, hx]
  refine Eq.trans (congrArg (fun z : EReal => ((u d p.1 p.2.1 p.2.2 : ℝ) : EReal) - z) ?_) (EReal.coe_sub _ _).symm
  refine (broadcastInDim_apply _ _ _ _ (ix5 g (0 : Fin 1) (0 : Fin 1) (0 : Fin 1) d) (by intro a; fin_cases a <;> rfl)).trans ?_
  rw [hostDivf_apply, broadcastInDim_scalar_apply]
  refine (congrArg₂ Ideal.div ((broadcastInDim_apply _ _ _ _ (ix2 g d) (by intro a; fin_cases a <;> rfl)).trans ((sum_group _ g d).trans ?_)) lit_group).trans (div_coe' (sumG (u d)) _ (by norm_num))
  rw [sumG, coe_sum]
  refine Finset.sum_congr rfl fun q _ => ?_
  rw [data_at, hx]

include hx in
/-- The covariance at an entry, as the kernel's difference of moments. -/
theorem cov_at (d e : Fin 2) : (res_main_v10 V0 (ix3 g d e) : EReal) = ((cv (u d) (u e) : ℝ) : EReal) := by
  rw [res_main_v10, hostDivf_apply, broadcastInDim_scalar_apply, dot_cov, sum_pos]
  refine (congrArg₂ Ideal.div ?_ lit_group).trans ((div_coe' (∑ p : Pts, (u d p.1 p.2.1 p.2.2 - mu (u d)) * (u e p.1 p.2.1 p.2.2 - mu (u e))) _ (by norm_num)).trans ?_)
  · rw [coe_sum]
    refine Finset.sum_congr rfl fun q _ => ?_
    rw [centred V0 g u hx, centred V0 g u hx, EReal.coe_mul]
  · rw [cv_eq]

include hx in
/-- The covariance's first diagonal entry. -/
theorem a_at : (res_main_v12 V0 (ix1 g) : EReal) = ((cv (u 0) (u 0) : ℝ) : EReal) := by
  rw [res_main_v12, ← cov_at V0 g u hx]
  refine (shapeCast_apply _ _ _ (ix3 g (0 : Fin 1) (0 : Fin 1)) ?_).trans (extractStridedSlice_apply _ _ _ _ _ ?_)
  · show (S32x1x1.rowMajor (ix3 g (0 : Fin 1) (0 : Fin 1))).val = (S32.rowMajor (ix1 g)).val
    rw [Shape.rowMajor_val_three, Shape.rowMajor_val_one]
    show (g.val * 1 + 0) * 1 + 0 = g.val; omega
  · intro a; fin_cases a
    · show g.val = 0 + g.val; omega
    · rfl
    · rfl
include hx in
/-- The covariance's entry off the diagonal. -/
theorem b_at : (res_main_v14 V0 (ix1 g) : EReal) = ((cv (u 0) (u 1) : ℝ) : EReal) := by
  rw [res_main_v14, ← cov_at V0 g u hx]
  refine (shapeCast_apply _ _ _ (ix3 g (0 : Fin 1) (0 : Fin 1)) ?_).trans (extractStridedSlice_apply _ _ _ _ _ ?_)
  · show (S32x1x1.rowMajor (ix3 g (0 : Fin 1) (0 : Fin 1))).val = (S32.rowMajor (ix1 g)).val
    rw [Shape.rowMajor_val_three, Shape.rowMajor_val_one]
    show (g.val * 1 + 0) * 1 + 0 = g.val; omega
  · intro a; fin_cases a
    · show g.val = 0 + g.val; omega
    · rfl
    · rfl
include hx in
/-- The covariance's second diagonal entry. -/
theorem c_at : (res_main_v16 V0 (ix1 g) : EReal) = ((cv (u 1) (u 1) : ℝ) : EReal) := by
  rw [res_main_v16, ← cov_at V0 g u hx]
  refine (shapeCast_apply _ _ _ (ix3 g (0 : Fin 1) (0 : Fin 1)) ?_).trans (extractStridedSlice_apply _ _ _ _ _ ?_)
  · show (S32x1x1.rowMajor (ix3 g (0 : Fin 1) (0 : Fin 1))).val = (S32.rowMajor (ix1 g)).val
    rw [Shape.rowMajor_val_three, Shape.rowMajor_val_one]
    show (g.val * 1 + 0) * 1 + 0 = g.val; omega
  · intro a; fin_cases a
    · show g.val = 0 + g.val; omega
    · rfl
    · rfl
end

end Cert.ReferenceIdeal.Entry

end
-- ==== Proof.Equation.Whitened.lean ====
/- The reference program on real data, second half: the rotation, the whitening matrix and the result at an entry. -/
module

public import proofs.«01_k».proof.Proof.Equation.Centred

@[expose] public section

set_option maxRecDepth 16384

noncomputable section

namespace Cert.ReferenceIdeal.Entry

open Cert.ReferenceIdeal Cert.ReferenceIdeal.Gen Cert.ReferenceIdeal.Value
open Cert.KernelIdeal.Sums (Pts sumC sumG sumP coe_sum)
open Cert.KernelIdeal.Coef (Grp mu cv cv_eq cv_nonneg cv_sq_le eps eps_pos lit_eps lit_two lit_one lit_neg_one lit_group lit_plane div_coe' sqrt_coe' rtR ivR w00R w11R w01R)
open Idealize.ShloMosaic Idealize.ShloMosaic.ValueIdx
open Cert

/-! ## Two numbers or two rows side by side -/

section
variable (x y : S32.Idx → EReal) (g : Fin 32)

/-- Two numbers of a group in a row. -/
abbrev pair : S32x2.Idx → EReal :=
  concatenate S32x2 1 [⟨S32x1, (broadcastInDim S32x1 ![0] bcast_S32_S32x1_0 x)⟩, ⟨S32x1, (broadcastInDim S32x1 ![0] bcast_S32_S32x1_0 y)⟩] concatenates_S32x1_S32x1_S32x2_d1

/-- The first of two stacked lines. -/
theorem pair_fst : pair x y (ix2 g (0 : Fin 2)) = x (ix1 g) := by
  refine (concatenate_pair_apply_left (t := S32x2) (s₁ := S32x1) (s₂ := S32x1) 1 _ _ _ (ix2 g (0 : Fin 2)) rfl (ix2 g (0 : Fin 1) : S32x1.Idx) ?_).trans ?_
  · intro b; fin_cases b <;> rfl
  · exact broadcastInDim_apply _ _ _ _ (ix1 g) (by intro a; fin_cases a; rfl)
/-- The second of two stacked lines. -/
theorem pair_snd : pair x y (ix2 g (1 : Fin 2)) = y (ix1 g) := by
  refine (concatenate_pair_apply_right (t := S32x2) (s₁ := S32x1) (s₂ := S32x1) 1 _ _ _ (ix2 g (1 : Fin 2)) rfl rfl (ix2 g (0 : Fin 1) : S32x1.Idx) ?_ rfl).trans ?_
  · intro b hb
    fin_cases b
    · rfl
    · exact absurd rfl hb
  · exact broadcastInDim_apply _ _ _ _ (ix1 g) (by intro a; fin_cases a; rfl)

variable (p q : S32x2.Idx → EReal) (j : Fin 2)

/-- Two rows of a group in a matrix. -/
abbrev rows : S32x2x2.Idx → EReal :=
  concatenate S32x2x2 1 [⟨S32x1x2, (broadcastInDim S32x1x2 ![0, 2] bcast_S32x2_S32x1x2_0_2 p)⟩, ⟨S32x1x2, (broadcastInDim S32x1x2 ![0, 2] bcast_S32x2_S32x1x2_0_2 q)⟩] concatenates_S32x1x2_S32x1x2_S32x2x2_d1

/-- The first of two stacked rows. -/
theorem rows_fst : rows p q (ix3 g (0 : Fin 2) j) = p (ix2 g j) := by
  refine (concatenate_pair_apply_left (t := S32x2x2) (s₁ := S32x1x2) (s₂ := S32x1x2) 1 _ _ _ (ix3 g (0 : Fin 2) j) rfl (ix3 g (0 : Fin 1) j : S32x1x2.Idx) ?_).trans ?_
  · intro b; fin_cases b <;> rfl
  · exact broadcastInDim_apply _ _ _ _ (ix2 g j) (by intro a; fin_cases a <;> rfl)
/-- The second of two stacked rows. -/
theorem rows_snd : rows p q (ix3 g (1 : Fin 2) j) = q (ix2 g j) := by
  refine (concatenate_pair_apply_right (t := S32x2x2) (s₁ := S32x1x2) (s₂ := S32x1x2) 1 _ _ _ (ix3 g (1 : Fin 2) j) rfl rfl (ix3 g (0 : Fin 1) j : S32x1x2.Idx) ?_ rfl).trans ?_
  · intro b hb
    fin_cases b
    · rfl
    · exact absurd rfl hb
    · rfl
  · exact broadcastInDim_apply _ _ _ _ (ix2 g j) (by intro a; fin_cases a <;> rfl)
end

/-! ## Arithmetic on reals -/

/-- The absolute value of a number, among the extended reals. -/
theorem abs_coe (r : ℝ) : max (r : EReal) (-(r : EReal)) = ((|r| : ℝ) : EReal) := by
  rw [← EReal.coe_neg, abs]
  exact (EReal.coe_strictMono.monotone.map_max (a := r) (b := -r)).symm

/-- An entry of the whitening matrix, on numbers, is a number. -/
theorem mat_coe (a b c d e f : ℝ) : ((a : EReal) * (b : EReal) * (c : EReal) + (d : EReal) * (e : EReal) * (f : EReal)) = ((a * b * c + d * e * f : ℝ) : EReal) := by
  simp only [← EReal.coe_mul, ← EReal.coe_add]

/-- A scaled whitened entry plus any shift. -/
theorem out_coe (x p y q s : ℝ) (z : EReal) : (((x : EReal) * (p : EReal) + (y : EReal) * (q : EReal)) * (s : EReal) + z) = (((x * p + y * q) * s : ℝ) : EReal) + z := by
  rw [← EReal.coe_mul, ← EReal.coe_mul, ← EReal.coe_add, ← EReal.coe_mul]

/-- One plus a square, on numbers. -/
theorem one_add_sq (t : ℝ) : (((1 : ℝ) : EReal) + (t : EReal) * (t : EReal)) = ((1 + t * t : ℝ) : EReal) := by
  rw [← EReal.coe_mul, ← EReal.coe_add]

/-- One plus a square is positive. -/
theorem sq_nonneg' (t : ℝ) : 0 < 1 + t * t := by nlinarith [mul_self_nonneg t]

section
variable (V0 : Valuation τ sig (Elt Ideal))
variable (g : Fin 32) (u : Fin 2 → Grp) (hx : ∀ k h w d, argX V0 (ix4 (chan g k) h w d) = ((u d k h w : ℝ) : EReal))

/-- The covariance's entries. -/
abbrev ca : ℝ := cv (u 0) (u 0)
/-- The entry off the diagonal. -/
abbrev cb : ℝ := cv (u 0) (u 1)
/-- The second diagonal entry. -/
abbrev cc : ℝ := cv (u 1) (u 1)

include hx in
/-- The rotation's ratio, where the entry off the diagonal is not zero. -/
theorem tau_at (hb : cb u ≠ 0) : (res_main_v20 V0 (ix1 g) : EReal) = ((Whiten.tau (ca u) (cb u) (cc u) : ℝ) : EReal) := by
  rw [res_main_v20, hostDivf_apply, subf_apply, mulf_apply, broadcastInDim_scalar_apply, a_at V0 g u hx, b_at V0 g u hx, c_at V0 g u hx]
  have h2 : (constant (F := Ideal) S_ .f32 0x40000000#32 ix0 : EReal) = ((2 : ℝ) : EReal) := lit_two
  rw [h2]
  refine (congrArg₂ Ideal.div (EReal.coe_sub _ _).symm (EReal.coe_mul _ _).symm).trans (div_coe' _ _ (mul_ne_zero two_ne_zero hb))

include hx in
/-- The rotation's tangent, in every case. -/
theorem t_at : (res_main_v34 V0 (ix1 g) : EReal) = ((Whiten.tng (ca u) (cb u) (cc u) : ℝ) : EReal) := by
  have h0 : (constant (F := Ideal) S_ .f32 0x00000000#32 ix0 : EReal) = ((0 : ℝ) : EReal) := Ideal.ofBits_zero_f32
  have h1 : (constant (F := Ideal) S_ .f32 0x3F800000#32 ix0 : EReal) = ((1 : ℝ) : EReal) := lit_one
  have hm : (constant (F := Ideal) S_ .f32 0xBF800000#32 ix0 : EReal) = ((-1 : ℝ) : EReal) := lit_neg_one
  rw [res_main_v34, select_apply, cmpf_apply, Ideal.cmpf_def, broadcastInDim_scalar_apply, broadcastInDim_scalar_apply, b_at V0 g u hx]
  simp only [id_eq]
  rw [h0]
  by_cases hb : cb u = 0
  · have e : Ideal.cmp .oeq ((cv (u 0) (u 1) : ℝ) : EReal) ((0 : ℝ) : EReal) = 1#1 := by
      show BitVec.ofBool (decide (((cv (u 0) (u 1) : ℝ) : EReal) = ((0 : ℝ) : EReal))) = 1#1
      rw [decide_eq_true (by rw [show cv (u 0) (u 1) = 0 from hb])]; rfl
    rw [e, select_one, Whiten.tng, if_pos hb]
  · have e : Ideal.cmp .oeq ((cv (u 0) (u 1) : ℝ) : EReal) ((0 : ℝ) : EReal) = 0#1 := by
      show BitVec.ofBool (decide (((cv (u 0) (u 1) : ℝ) : EReal) = ((0 : ℝ) : EReal))) = 0#1
      rw [decide_eq_false (by rw [EReal.coe_eq_coe_iff]; exact hb)]; rfl
    rw [e, select_zero, Whiten.tng, if_neg hb, hostDivf_apply, addf_apply, select_apply, cmpf_apply, Ideal.cmpf_def]
    have ht := tau_at V0 g u hx hb
    have hA : (Host.absf (F := Ideal) (φ := .f32) (res_main_v20 V0) (ix1 g) : EReal) = ((|Whiten.tau (ca u) (cb u) (cc u)| : ℝ) : EReal) := by
      show (fun r : EReal => max r (-r)) (res_main_v20 V0 (ix1 g)) = _
      rw [ht]
      exact abs_coe _
    have hR : (Host.sqrt (F := Ideal) (φ := .f32) (addf (broadcastInDim S32 ![] bcast_S_S32 (constant S_ .f32 0x3F800000#32)) (mulf (res_main_v20 V0) (res_main_v20 V0))) (ix1 g) : EReal)
        = ((√(1 + Whiten.tau (ca u) (cb u) (cc u) * Whiten.tau (ca u) (cb u) (cc u)) : ℝ) : EReal) := by
      show Ideal.sqrt (addf (F := Ideal) (φ := .f32) (broadcastInDim S32 ![] bcast_S_S32 (constant S_ .f32 0x3F800000#32)) (mulf (res_main_v20 V0) (res_main_v20 V0)) (ix1 g)) = _
      rw [addf_apply, mulf_apply, broadcastInDim_scalar_apply, h1, ht, one_add_sq, sqrt_coe' _ (sq_nonneg' _).le]
    rw [hA, hR, ht, broadcastInDim_scalar_apply, broadcastInDim_scalar_apply, broadcastInDim_scalar_apply, h0, h1, hm]
    have hs : (Scalar.select (Ideal.cmp .olt ((Whiten.tau (ca u) (cb u) (cc u) : ℝ) : EReal) ((0 : ℝ) : EReal)) ((-1 : ℝ) : EReal) ((1 : ℝ) : EReal) : EReal)
        = ((if Whiten.tau (ca u) (cb u) (cc u) < 0 then -1 else 1 : ℝ) : EReal) := by
      by_cases hn : Whiten.tau (ca u) (cb u) (cc u) < 0
      · have e : Ideal.cmp .olt ((Whiten.tau (ca u) (cb u) (cc u) : ℝ) : EReal) ((0 : ℝ) : EReal) = 1#1 := by
          show BitVec.ofBool (decide (((Whiten.tau (ca u) (cb u) (cc u) : ℝ) : EReal) < ((0 : ℝ) : EReal))) = 1#1
          rw [decide_eq_true (EReal.coe_lt_coe_iff.mpr hn)]; rfl
        rw [e, select_one, if_pos hn]
      · have e : Ideal.cmp .olt ((Whiten.tau (ca u) (cb u) (cc u) : ℝ) : EReal) ((0 : ℝ) : EReal) = 0#1 := by
          show BitVec.ofBool (decide (((Whiten.tau (ca u) (cb u) (cc u) : ℝ) : EReal) < ((0 : ℝ) : EReal))) = 0#1
          rw [decide_eq_false (by rw [EReal.coe_lt_coe_iff]; exact hn)]; rfl
        rw [e, select_zero, if_neg hn]
    rw [hs]
    refine (congrArg (Ideal.div _) (EReal.coe_add _ _).symm).trans (div_coe' _ _ (Whiten.root_pos _).ne')

include hx in
/-- The rotation's cosine. -/
theorem cs_at : (res_main_v40 V0 (ix1 g) : EReal) = ((Whiten.cs (ca u) (cb u) (cc u) : ℝ) : EReal) := by
  have h1 : (constant (F := Ideal) S_ .f32 0x3F800000#32 ix0 : EReal) = ((1 : ℝ) : EReal) := lit_one
  rw [res_main_v40, hostDivf_apply, broadcastInDim_scalar_apply, h1]
  have hR : (Host.sqrt (F := Ideal) (φ := .f32) (addf (broadcastInDim S32 ![] bcast_S_S32 (constant S_ .f32 0x3F800000#32)) (mulf (res_main_v34 V0) (res_main_v34 V0))) (ix1 g) : EReal)
      = ((√(1 + Whiten.tng (ca u) (cb u) (cc u) * Whiten.tng (ca u) (cb u) (cc u)) : ℝ) : EReal) := by
    show Ideal.sqrt (addf (F := Ideal) (φ := .f32) (broadcastInDim S32 ![] bcast_S_S32 (constant S_ .f32 0x3F800000#32)) (mulf (res_main_v34 V0) (res_main_v34 V0)) (ix1 g)) = _
    rw [addf_apply, mulf_apply, broadcastInDim_scalar_apply, h1, t_at V0 g u hx, one_add_sq, sqrt_coe' _ (sq_nonneg' _).le]
  rw [hR, div_coe' _ _ (Real.sqrt_pos.mpr (sq_nonneg' _)).ne', Whiten.cs]

include hx in
/-- The rotation's sine. -/
theorem sn_at : (res_main_v41 V0 (ix1 g) : EReal) = ((Whiten.sn (ca u) (cb u) (cc u) : ℝ) : EReal) := by
  rw [res_main_v41, mulf_apply, t_at V0 g u hx, cs_at V0 g u hx, ← EReal.coe_mul, Whiten.sn]

include hx in
/-- The rotation's sine, negated. -/
theorem nsn_at : (Host.negf (F := Ideal) (φ := .f32) (res_main_v41 V0) (ix1 g) : EReal) = ((-Whiten.sn (ca u) (cb u) (cc u) : ℝ) : EReal) := by
  show (fun r : EReal => -r) (res_main_v41 V0 (ix1 g)) = _
  rw [sn_at V0 g u hx]
  exact (EReal.coe_neg _).symm

/-- The eigenvectors and the centred data, as arrays of extended reals. -/
abbrev rot : S32x2x2.Idx → EReal := res_main_v58 V0
/-- The centred data, group by group. -/
abbrev cen : S32x1179648x2.Idx → EReal := res_main_v7 V0

/-- The rotation is its two rows, stacked. -/
theorem rot_eq : rot V0 = rows (pair (res_main_v40 V0) (res_main_v41 V0)) (pair (Host.negf (F := Ideal) (φ := .f32) (res_main_v41 V0)) (res_main_v40 V0)) := rfl

include hx in
/-- The rotation at (0, 0). -/
theorem rot00 : (rot V0 (ix3 g (0 : Fin 2) (0 : Fin 2)) : EReal) = ((Whiten.cs (ca u) (cb u) (cc u) : ℝ) : EReal) := by
  rw [rot_eq, rows_fst, pair_fst, cs_at V0 g u hx]
include hx in
/-- The rotation at (0, 1). -/
theorem rot01 : (rot V0 (ix3 g (0 : Fin 2) (1 : Fin 2)) : EReal) = ((Whiten.sn (ca u) (cb u) (cc u) : ℝ) : EReal) := by
  rw [rot_eq, rows_fst, pair_snd, sn_at V0 g u hx]
include hx in
/-- The rotation at (1, 0). -/
theorem rot10 : (rot V0 (ix3 g (1 : Fin 2) (0 : Fin 2)) : EReal) = ((-Whiten.sn (ca u) (cb u) (cc u) : ℝ) : EReal) := by
  rw [rot_eq, rows_snd, pair_fst, nsn_at V0 g u hx]
include hx in
/-- The rotation at (1, 1). -/
theorem rot11 : (rot V0 (ix3 g (1 : Fin 2) (1 : Fin 2)) : EReal) = ((Whiten.cs (ca u) (cb u) (cc u) : ℝ) : EReal) := by
  rw [rot_eq, rows_snd, pair_snd, cs_at V0 g u hx]

/-! ## The whitening matrix -/

/-- The shifted covariance's eigenvalues, and the roots of their inverses. -/
abbrev eigs : S32x2.Idx → EReal :=
  addf (F := Ideal) (φ := .f32) (pair (subf (F := Ideal) (φ := .f32) (res_main_v12 V0) (mulf (res_main_v34 V0) (res_main_v14 V0))) (addf (F := Ideal) (φ := .f32) (res_main_v16 V0) (mulf (res_main_v34 V0) (res_main_v14 V0))))
    (broadcastInDim S32x2 ![] bcast_S_S32x2 (constant S_ .f32 0x3727C5AC#32))
/-- The roots of the eigenvalues' inverses. -/
abbrev roots : S32x2.Idx → EReal :=
  Host.sqrt (F := Ideal) (φ := .f32) (Host.divf (broadcastInDim S32x2 ![] bcast_S_S32x2 (constant S_ .f32 0x3F800000#32)) (eigs V0))

include hx in
/-- The first shifted eigenvalue. -/
theorem eig0_at : (eigs V0 (ix2 g (0 : Fin 2)) : EReal) = ((Whiten.l1 (ca u) (cb u) (cc u) eps : ℝ) : EReal) := by
  have he : (constant (F := Ideal) S_ .f32 0x3727C5AC#32 ix0 : EReal) = ((eps : ℝ) : EReal) := lit_eps
  rw [eigs, addf_apply, pair_fst, broadcastInDim_scalar_apply, he, subf_apply, mulf_apply, a_at V0 g u hx, b_at V0 g u hx, t_at V0 g u hx,
    ← EReal.coe_mul, ← EReal.coe_sub, ← EReal.coe_add, Whiten.l1]
include hx in
/-- The second shifted eigenvalue. -/
theorem eig1_at : (eigs V0 (ix2 g (1 : Fin 2)) : EReal) = ((Whiten.l2 (ca u) (cb u) (cc u) eps : ℝ) : EReal) := by
  have he : (constant (F := Ideal) S_ .f32 0x3727C5AC#32 ix0 : EReal) = ((eps : ℝ) : EReal) := lit_eps
  rw [eigs, addf_apply, pair_snd, broadcastInDim_scalar_apply, he, addf_apply, mulf_apply, c_at V0 g u hx, b_at V0 g u hx, t_at V0 g u hx,
    ← EReal.coe_mul, ← EReal.coe_add, ← EReal.coe_add, Whiten.l2]

/-- The root of a positive eigenvalue's inverse. -/
theorem roots_at (j : Fin 2) (l : ℝ) (hl : 0 < l) (h : (eigs V0 (ix2 g j) : EReal) = (l : EReal)) :
    (roots V0 (ix2 g j) : EReal) = ((√(1 / l) : ℝ) : EReal) := by
  have h1 : (constant (F := Ideal) S_ .f32 0x3F800000#32 ix0 : EReal) = ((1 : ℝ) : EReal) := lit_one
  show Ideal.sqrt (Ideal.div (broadcastInDim S32x2 ![] bcast_S_S32x2 (constant (F := Ideal) S_ .f32 0x3F800000#32) (ix2 g j)) (eigs V0 (ix2 g j))) = _
  rw [broadcastInDim_scalar_apply, h1, h, div_coe' _ _ hl.ne', sqrt_coe' _ (div_pos one_pos hl).le]

include hx in
/-- The root of the first eigenvalue's inverse. -/
theorem root0_at : (roots V0 (ix2 g (0 : Fin 2)) : EReal) = ((√(1 / Whiten.l1 (ca u) (cb u) (cc u) eps) : ℝ) : EReal) :=
  roots_at V0 g 0 _ (Whiten.l1_pos _ _ _ _ (cv_nonneg _) (cv_nonneg _) (cv_sq_le _ _) eps_pos) (eig0_at V0 g u hx)
include hx in
/-- The root of the second eigenvalue's inverse. -/
theorem root1_at : (roots V0 (ix2 g (1 : Fin 2)) : EReal) = ((√(1 / Whiten.l2 (ca u) (cb u) (cc u) eps) : ℝ) : EReal) :=
  roots_at V0 g 1 _ (Whiten.l2_pos _ _ _ _ (cv_nonneg _) (cv_nonneg _) (cv_sq_le _ _) eps_pos) (eig1_at V0 g u hx)

/-- The whitening matrix: the eigenvectors, scaled, times their transpose. -/
abbrev scaled : S32x2x2.Idx → EReal :=
  mulf (F := Ideal) (φ := .f32) (rot V0) (broadcastInDim S32x2x2 ![0, 1, 2] bcast_S32x1x2_S32x2x2_0_1_2 (broadcastInDim S32x1x2 ![0, 2] bcast_S32x2_S32x1x2_0_2 (roots V0)))
/-- The whitening matrix. -/
abbrev whitener : S32x2x2.Idx → EReal :=
  Host.dotGeneral (F := Ideal) (φ₁ := .f32) (φ₂ := .f32) dot_S32x2x2_S32x2x2_S32x2x2_2_2_1_1_0_0 none (scaled V0) (rot V0)

/-- A scaled eigenvector at an entry. -/
theorem scaled_at (i j : Fin 2) : (scaled V0 (ix3 g i j) : EReal) = rot V0 (ix3 g i j) * roots V0 (ix2 g j) := by
  rw [scaled, mulf_apply]
  refine congrArg (fun z : EReal => rot V0 (ix3 g i j) * z) ?_
  refine (broadcastInDim_apply _ _ _ _ (ix3 g (0 : Fin 1) j) (by intro a; fin_cases a <;> rfl)).trans ?_
  exact broadcastInDim_apply _ _ _ _ (ix2 g j) (by intro a; fin_cases a <;> rfl)

include hx in
/-- The whitening matrix at (0, 0) is the closed form's. -/
theorem w00_at : (whitener V0 (ix3 g (0 : Fin 2) (0 : Fin 2)) : EReal) = ((w00R (u 0) (u 1) : ℝ) : EReal) := by
  rw [whitener, dot_mat, Fin.sum_univ_two, scaled_at, scaled_at, rot00 V0 g u hx, rot01 V0 g u hx, root0_at V0 g u hx, root1_at V0 g u hx]
  exact (mat_coe _ _ _ _ _ _).trans (congrArg _ <| Whiten.whiten00 (ca u) (cb u) (cc u) eps (cv_nonneg _) (cv_nonneg _) (cv_sq_le _ _) eps_pos)
include hx in
/-- The whitening matrix at (0, 1) is the closed form's. -/
theorem w01_at : (whitener V0 (ix3 g (0 : Fin 2) (1 : Fin 2)) : EReal) = ((w01R (u 0) (u 1) : ℝ) : EReal) := by
  rw [whitener, dot_mat, Fin.sum_univ_two, scaled_at, scaled_at, rot00 V0 g u hx, rot01 V0 g u hx, rot10 V0 g u hx, rot11 V0 g u hx, root0_at V0 g u hx, root1_at V0 g u hx]
  exact (mat_coe _ _ _ _ _ _).trans (congrArg _ <| Whiten.whiten01 (ca u) (cb u) (cc u) eps (cv_nonneg _) (cv_nonneg _) (cv_sq_le _ _) eps_pos)
include hx in
/-- The whitening matrix at (1, 0) is the closed form's. -/
theorem w10_at : (whitener V0 (ix3 g (1 : Fin 2) (0 : Fin 2)) : EReal) = ((w01R (u 0) (u 1) : ℝ) : EReal) := by
  rw [whitener, dot_mat, Fin.sum_univ_two, scaled_at, scaled_at, rot00 V0 g u hx, rot01 V0 g u hx, rot10 V0 g u hx, rot11 V0 g u hx, root0_at V0 g u hx, root1_at V0 g u hx]
  refine (mat_coe _ _ _ _ _ _).trans (congrArg _ <| Eq.trans ?_ (Whiten.whiten01 (ca u) (cb u) (cc u) eps (cv_nonneg _) (cv_nonneg _) (cv_sq_le _ _) eps_pos))
  ring
include hx in
/-- The whitening matrix at (1, 1) is the closed form's. -/
theorem w11_at : (whitener V0 (ix3 g (1 : Fin 2) (1 : Fin 2)) : EReal) = ((w11R (u 0) (u 1) : ℝ) : EReal) := by
  rw [whitener, dot_mat, Fin.sum_univ_two, scaled_at, scaled_at, rot10 V0 g u hx, rot11 V0 g u hx, root0_at V0 g u hx, root1_at V0 g u hx]
  refine (mat_coe _ _ _ _ _ _).trans (congrArg _ <| Eq.trans ?_ (Whiten.whiten11 (ca u) (cb u) (cc u) eps (cv_nonneg _) (cv_nonneg _) (cv_sq_le _ _) eps_pos))
  ring

/-! ## The result -/

/-- The whitened data, in the shape of the data. -/
abbrev white : S256x384x384x2.Idx → EReal :=
  shapeCast S256x384x384x2 (Host.dotGeneral (F := Ideal) (φ₁ := .f32) (φ₂ := .f32) dot_S32x1179648x2_S32x2x2_S32x1179648x2_2_2_1_1_0_0 none (cen V0) (whitener V0)) shapeCasts_S32x1179648x2_S256x384x384x2

/-- A channel's bias times its plane's mean. -/
abbrev shift : S256x1x1x2.Idx → EReal :=
  mulf (F := Ideal) (φ := .f32) (broadcastInDim S256x1x1x2 ![0, 1, 2, 3] bcast_S256x1x1x1_S256x1x1x2_0_1_2_3 (argB V0))
    (Host.divf (F := Ideal) (φ := .f32) (broadcastInDim S256x1x1x2 ![0, 3] bcast_S256x2_S256x1x1x2_0_3 (Host.reduceAdd (F := Ideal) (φ := .f32) (argX V0) (constant S_ .f32 0x00000000#32) reducesTo_S256x384x384x2_S256x2_d1_2 h_S_)) (broadcastInDim S256x1x1x2 ![] bcast_S_S256x1x1x2 (constant S_ .f32 0x48100000#32)))

/-- The program's result. -/
abbrev result : S256x384x384x2.Idx → EReal :=
  addf (F := Ideal) (φ := .f32) (mulf (F := Ideal) (φ := .f32) (white V0) (broadcastInDim S256x384x384x2 ![0, 1, 2, 3] bcast_S256x1x1x1_S256x384x384x2_0_1_2_3 (argS V0)))
    (broadcastInDim S256x384x384x2 ![0, 1, 2, 3] bcast_S256x1x1x2_S256x384x384x2_0_1_2_3 (shift V0))

/-- A whitened entry: its row of the matrix against the centred pair. -/
theorem white_at (k : Fin 8) (h w : Fin 384) (i : Fin 2) : (white V0 (ix4 (chan g k) h w i) : EReal)
    = cen V0 (ix3 g (pos (k, h, w)) (0 : Fin 2)) * whitener V0 (ix3 g i (0 : Fin 2))
      + cen V0 (ix3 g (pos (k, h, w)) (1 : Fin 2)) * whitener V0 (ix3 g i (1 : Fin 2)) := by
  rw [white]
  refine (shapeCast_apply _ _ _ (ix3 g (pos (k, h, w)) i) ?_).trans ?_
  · rw [Shape.rowMajor_val_three, Shape.rowMajor_val_four]
    show (g.val * 1179648 + ((k.val * 384 + h.val) * 384 + w.val)) * 2 + i.val = (((8 * g.val + k.val) * 384 + h.val) * 384 + w.val) * 2 + i.val
    omega
  rw [dot_out, Fin.sum_univ_two]

variable (k : Fin 8) (s : ℝ) (b : EReal) (hs : argS V0 (ix4 (chan g k) (0 : Fin 1) (0 : Fin 1) (0 : Fin 1)) = (s : EReal)) (hb : argB V0 (ix4 (chan g k) (0 : Fin 1) (0 : Fin 1) (0 : Fin 1)) = b)

include hx hb in
/-- A channel's shift, for any bias. -/
theorem shift_at (i : Fin 2) : (shift V0 (ix4 (chan g k) (0 : Fin 1) (0 : Fin 1) i) : EReal) = b * ((sumC (u i) k / 147456 : ℝ) : EReal) := by
  rw [shift, mulf_apply, hostDivf_apply, broadcastInDim_scalar_apply]
  refine congrArg₂ (fun x y : EReal => x * y) ((broadcastInDim_apply _ _ _ _ (ix4 (chan g k) (0 : Fin 1) (0 : Fin 1) (0 : Fin 1)) (by intro a; fin_cases a <;> rfl)).trans hb) ?_
  refine (congrArg₂ Ideal.div ((broadcastInDim_apply _ _ _ _ (ix2 (chan g k) i) (by intro a; fin_cases a <;> rfl)).trans ((sum_channel _ (chan g k) i).trans ?_)) lit_plane).trans (div_coe' (sumC (u i) k) _ (by norm_num))
  rw [Fintype.sum_prod_type, sumC, coe_sum]
  refine Finset.sum_congr rfl fun h _ => ?_
  rw [coe_sum]
  exact Finset.sum_congr rfl fun w _ => hx k h w i

include hs in
/-- An entry of the result from its centred pair, its matrix row and its shift. -/
theorem out_at (h w : Fin 384) (i : Fin 2) (x y p q : ℝ) (z : EReal)
    (e0 : (cen V0 (ix3 g (pos (k, h, w)) (0 : Fin 2)) : EReal) = (x : EReal)) (e1 : (cen V0 (ix3 g (pos (k, h, w)) (1 : Fin 2)) : EReal) = (y : EReal))
    (p0 : (whitener V0 (ix3 g i (0 : Fin 2)) : EReal) = (p : EReal)) (p1 : (whitener V0 (ix3 g i (1 : Fin 2)) : EReal) = (q : EReal))
    (hz : (shift V0 (ix4 (chan g k) (0 : Fin 1) (0 : Fin 1) i) : EReal) = z) :
    (result V0 (ix4 (chan g k) h w i) : EReal) = (((x * p + y * q) * s : ℝ) : EReal) + z := by
  rw [result, addf_apply, mulf_apply, white_at, e0, e1, p0, p1]
  refine (congrArg₂ (fun a c : EReal => ((x : EReal) * (p : EReal) + (y : EReal) * (q : EReal)) * a + c)
    ((broadcastInDim_apply _ _ _ _ (ix4 (chan g k) (0 : Fin 1) (0 : Fin 1) (0 : Fin 1)) (by intro a; fin_cases a <;> rfl)).trans hs)
    ((broadcastInDim_apply _ _ _ _ (ix4 (chan g k) (0 : Fin 1) (0 : Fin 1) i) (by intro a; fin_cases a <;> rfl)).trans hz)).trans (out_coe _ _ _ _ _ _)

include hx hs hb in
/-- The reference's entries on real data. -/
theorem result0 (h w : Fin 384) : (result V0 (ix4 (chan g k) h w (0 : Fin 2)) : EReal)
    = ((((u 0 k h w - mu (u 0)) * w00R (u 0) (u 1) + (u 1 k h w - mu (u 1)) * w01R (u 0) (u 1)) * s : ℝ) : EReal) + b * ((sumC (u 0) k / 147456 : ℝ) : EReal) :=
  out_at V0 g k s hs h w 0 _ _ _ _ _ (centred V0 g u hx (k, h, w) 0) (centred V0 g u hx (k, h, w) 1) (w00_at V0 g u hx) (w01_at V0 g u hx) (shift_at V0 g u hx k b hb 0)
include hx hs hb in
/-- The reference's entries of the second component on real data. -/
theorem result1 (h w : Fin 384) : (result V0 (ix4 (chan g k) h w (1 : Fin 2)) : EReal)
    = ((((u 0 k h w - mu (u 0)) * w01R (u 0) (u 1) + (u 1 k h w - mu (u 1)) * w11R (u 0) (u 1)) * s : ℝ) : EReal) + b * ((sumC (u 1) k / 147456 : ℝ) : EReal) :=
  out_at V0 g k s hs h w 1 _ _ _ _ _ (centred V0 g u hx (k, h, w) 0) (centred V0 g u hx (k, h, w) 1) (w10_at V0 g u hx) (w11_at V0 g u hx) (shift_at V0 g u hx k b hb 1)
end

end Cert.ReferenceIdeal.Entry

end
-- ==== Proof.Equation.lean ====
/-
  The equation of the two idealized programs: on finite data and scales, with any biases, both leave the same result.
-/
module

public import proofs.«01_k».proof.Defs
public import proofs.«01_k».proof.Proof.Gen.Pre_finite
public import proofs.«01_k».proof.Proof.Equation.Held
public import proofs.«01_k».proof.Proof.Equation.Whitened
public import Idealize.ShloMosaic.Lib.ReduceAll

@[expose] public section

set_option maxRecDepth 16384

noncomputable section

namespace Cert.Equation

open Idealize.ShloMosaic hiding ix0 ix1 ix2 ix3 ix4 ix5 eq_ix4
open Idealize.ShloMosaic.TcCoe Idealize.ShloMosaic.ValueIdx Idealize.SL.Sem
open Cert.KernelIdeal.Coef (Grp mu around)
open Cert

/-! ## What the precondition says -/

/-- A value whose magnitude is below infinity is a number. -/
theorem real_of_lt (x : EReal) (h : Ideal.cmp .olt (max x (-x)) (Ideal.ofBits .f32 0x7F800000#32) = 1#1) : ((x.toReal : ℝ) : EReal) = x := by
  have ht : (Ideal.ofBits .f32 0x7F800000#32 : EReal) = ⊤ := by simp [Ideal.ofBits, Ideal.ieee]
  rw [ht] at h
  have hl : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  refine EReal.coe_toReal ?_ ?_
  · rintro rfl; simp at hl
  · rintro rfl; simp at hl

/-- An array without directions has one entry. -/
instance : Subsingleton Cert.Pre_finite.S_.Idx := ⟨fun a b => funext fun i => i.elim0⟩

section
variable (x : FVec Ideal Cert.Pre_finite.S256x384x384x2 .f32) (s b : FVec Ideal Cert.Pre_finite.S256x1x1x1 .f32)
  (h : Cert.Pre_finite.fn (F := Ideal) x s b = fun _ => 1#1)

include h in
/-- The precondition is the conjunction of its two tests. -/
theorem both (j : Cert.Pre_finite.S_.Idx) :
    Host.reduce IntOp.andi (cmpf .olt (Host.absf x) (broadcastInDim Cert.Pre_finite.S256x384x384x2 ![] Cert.Pre_finite.Facts.bcast_S_S256x384x384x2 (constant Cert.Pre_finite.S_ .f32 0x7F800000#32))) (constantI Cert.Pre_finite.S_ 1 1#1) Cert.Pre_finite.Facts.reducesTo_S256x384x384x2_S_d0_1_2_3 Cert.Pre_finite.Facts.h_S_ j = 1#1
    ∧ Host.reduce IntOp.andi (cmpf .olt (Host.absf s) (broadcastInDim Cert.Pre_finite.S256x1x1x1 ![] Cert.Pre_finite.Facts.bcast_S_S256x1x1x1 (constant Cert.Pre_finite.S_ .f32 0x7F800000#32))) (constantI Cert.Pre_finite.S_ 1 1#1) Cert.Pre_finite.Facts.reducesTo_S256x1x1x1_S_d0_1_2_3 Cert.Pre_finite.Facts.h_S_ j = 1#1 := by
  have e := congrFun h j
  dsimp only [Cert.Pre_finite.fn] at e
  have key : ∀ p q : BitVec 1, p &&& q = 1#1 → p = 1#1 ∧ q = 1#1 := by decide
  exact key _ _ e

include h in
/-- Every entry of the data is a number. -/
theorem data_real (i : Cert.Pre_finite.S256x384x384x2.Idx) : (((x i : EReal).toReal : ℝ) : EReal) = x i :=
  real_of_lt _ (Host.reduce_andi_all _ _ _ _ _ (both x s b h ix0).1 i)

include h in
/-- Every scale is a number. -/
theorem scale_real (i : Cert.Pre_finite.S256x1x1x1.Idx) : (((s i : EReal).toReal : ℝ) : EReal) = s i :=
  real_of_lt _ (Host.reduce_andi_all _ _ _ _ _ (both x s b h ix0).2 i)
end

/-! ## The results agree -/

section
variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))

/-- The kernel's data. -/
abbrev kX : Cert.KernelIdeal.S256x384x384x2.Idx → EReal := m ((c.tc : Thread Cert.KernelIdeal.nD Cert.KernelIdeal.τ).loc Cert.KernelIdeal.main_arg0)
/-- The kernel's scales. -/
abbrev kS : Cert.KernelIdeal.S256x1x1x1.Idx → EReal := m ((c.tc : Thread Cert.KernelIdeal.nD Cert.KernelIdeal.τ).loc Cert.KernelIdeal.main_arg1)
/-- The kernel's biases. -/
abbrev kB : Cert.KernelIdeal.S256x1x1x1.Idx → EReal := m ((c.tc : Thread Cert.KernelIdeal.nD Cert.KernelIdeal.τ).loc Cert.KernelIdeal.main_arg2)

/-- The kernel's result. -/
abbrev kOut : Cert.KernelIdeal.S256x384x384x2.Idx → EReal :=
  Pipeline.afterTail₀ Cert.KernelIdeal.cfgs (Cert.KernelIdeal.Framed.dats m) 0 (Cert.KernelIdeal.Gen.V0 m) [Cert.KernelIdeal.Gen.hostOps1] c Cert.KernelIdeal.main_v8

variable (hX : Cert.ReferenceIdeal.Entry.argX V0 = kX m c) (hS : Cert.ReferenceIdeal.Entry.argS V0 = kS m c) (hB : Cert.ReferenceIdeal.Entry.argB V0 = kB m c)
variable (fx : ∀ i, (((kX m c i).toReal : ℝ) : EReal) = kX m c i) (fs : ∀ i, (((kS m c i).toReal : ℝ) : EReal) = kS m c i)

/-- A group's data in one component, as numbers. -/
def grp (g : Fin 32) (d : Fin 2) : Grp := fun k h w => (kX m c (ix4 (Cert.ReferenceIdeal.Entry.chan g k) h w d)).toReal

include hX hS hB fx fs in
/-- Entry by entry, the two programs compute the same. -/
theorem entries (g : Fin 32) (k : Fin 8) (h w : Fin 384) (d : Fin 2) :
    Cert.ReferenceIdeal.Entry.result V0 (ix4 (Cert.ReferenceIdeal.Entry.chan g k) h w d) = kOut m c (ix4 (Cert.ReferenceIdeal.Entry.chan g k) h w d) := by
  have hx : ∀ k h w d, Cert.ReferenceIdeal.Entry.argX V0 (ix4 (Cert.ReferenceIdeal.Entry.chan g k) h w d) = ((grp m c g d k h w : ℝ) : EReal) := by
    intro k h w d
    rw [hX]
    exact (fx _).symm
  have hs : Cert.ReferenceIdeal.Entry.argS V0 (ix4 (Cert.ReferenceIdeal.Entry.chan g k) (0 : Fin 1) (0 : Fin 1) (0 : Fin 1))
      = (((kS m c (ix4 (Cert.ReferenceIdeal.Entry.chan g k) (0 : Fin 1) (0 : Fin 1) (0 : Fin 1))).toReal : ℝ) : EReal) := by
    rw [hS]
    exact (fs _).symm
  have hb := congrFun hB (ix4 (Cert.ReferenceIdeal.Entry.chan g k) (0 : Fin 1) (0 : Fin 1) (0 : Fin 1))
  have kv : ∀ a b e, Cert.KernelIdeal.Values.plane (Cert.KernelIdeal.Gen.iblk m c 0 (Cert.KernelIdeal.Held.pt g)) 0 (ix3 a b e) = ((grp m c g 0 a b e : ℝ) : EReal) :=
    fun a b e => (Cert.KernelIdeal.Held.blk0_at m c g a b 0 e).trans (fx _).symm
  have kw : ∀ a b e, Cert.KernelIdeal.Values.plane (Cert.KernelIdeal.Gen.iblk m c 0 (Cert.KernelIdeal.Held.pt g)) 1 (ix3 a b e) = ((grp m c g 1 a b e : ℝ) : EReal) :=
    fun a b e => (Cert.KernelIdeal.Held.blk0_at m c g a b 1 e).trans (fx _).symm
  have ks := (Cert.KernelIdeal.Held.blk1_at m c g k 0).trans (fs (ix4 (Cert.ReferenceIdeal.Entry.chan g k) (0 : Fin 1) (0 : Fin 1) (0 : Fin 1))).symm
  have kb := Cert.KernelIdeal.Held.blk2_at m c g k 0
  refine Eq.trans ?_ (Cert.KernelIdeal.Held.result_at m c g k h w d).symm
  fin_cases d
  · refine (Cert.ReferenceIdeal.Entry.result0 V0 g (grp m c g) hx k _ _ hs hb h w).trans
      (Eq.trans ?_ (Cert.KernelIdeal.Coef.out0 _ (grp m c g 0) (grp m c g 1) kv kw _ _ k _ _ ks kb h w).symm)
    exact (around _ _ _ _ (by ring) _).symm
  · refine (Cert.ReferenceIdeal.Entry.result1 V0 g (grp m c g) hx k _ _ hs hb h w).trans
      (Eq.trans ?_ (Cert.KernelIdeal.Coef.out1 _ (grp m c g 0) (grp m c g 1) kv kw _ _ k _ _ ks kb h w).symm)
    exact (around _ _ _ _ (by ring) _).symm

include hX hS hB fx fs in
/-- The two results, entry by entry. -/
theorem agree : Cert.ReferenceIdeal.Entry.result V0 = kOut m c := by
  funext i
  obtain ⟨n, h, w, d, rfl⟩ : ∃ (n : Fin 256) (h w : Fin 384) (d : Fin 2), i = ix4 n h w d := ⟨i 0, i 1, i 2, i 3, eq_ix4 i⟩
  have hn := n.isLt
  obtain ⟨g, k, rfl⟩ : ∃ (g : Fin 32) (k : Fin 8), n = Cert.ReferenceIdeal.Entry.chan g k :=
    ⟨⟨n.val / 8, by omega⟩, ⟨n.val % 8, by omega⟩, Fin.ext (by show n.val = 8 * (n.val / 8) + n.val % 8; omega)⟩
  exact entries m c V0 hX hS hB fx fs g k h w d
end

/-- From finite data and scales the two programs leave the same result. -/
theorem algebraic : Cert.algebraic_KernelIdeal_ReferenceIdeal_pre_finite := by
  intro m g m' g' hp ha
  have e : ∀ c : Dev Cert.KernelIdeal.nD, Cert.ReferenceIdeal.Entry.result (StableHlo.launchContents m' c) = kOut m c := fun c =>
    agree m c (StableHlo.launchContents m' c) (ha c).1 (ha c).2.1 (ha c).2.2 (data_real _ _ _ (hp c)) (scale_real _ _ _ (hp c))
  refine ⟨fun c => kOut m c, (θ_run Cert.KernelIdeal.defs _ _).mono (fun r h => h.1) (Cert.KernelIdeal.Framed.run_held m g),
    (θ_run Cert.ReferenceIdeal.defs _ _).mono ?_ (Cert.ReferenceIdeal.Value.run (F := Ideal) m' g')⟩
  intro r h c
  exact ⟨(h c).1.trans (e c), (h c).2⟩

end Cert.Equation

end
-- ==== Proof.lean ====
/-
  The claims, assembled from the modules that prove each: Proof/Frames.lean the frames and the named constants, Proof/Equation.lean
  the equation of the two idealized programs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Equation

@[expose] public section

noncomputable section

namespace Cert.Proof

open Idealize.ShloMosaic Idealize.SL.Sem

/-- Every claim, from the modules that prove each. -/
theorem claim : Cert.Claim :=
  ⟨Cert.Kernel.Gen.facts, Cert.KernelIdeal.Gen.facts, Cert.ReferenceIdeal.Gen.facts, Cert.Pre_finite.Gen.facts,
    Frames.kernel, Frames.ideal, Frames.idealPre, Frames.reference, Frames.referencePre, Frames.preserves, Equation.algebraic⟩

end Cert.Proof

end
